-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x7168 : Shape := ⟨3, ![3, 4096, 7168]⟩
abbrev S3x4096x18432 : Shape := ⟨3, ![3, 4096, 18432]⟩
abbrev S3x4096 : Shape := ⟨2, ![3, 4096]⟩
abbrev S7168x18432 : Shape := ⟨2, ![7168, 18432]⟩
abbrev S_ : Shape := ⟨0, ![]⟩
abbrev S12288x7168 : Shape := ⟨2, ![12288, 7168]⟩
abbrev S12288x18432 : Shape := ⟨2, ![12288, 18432]⟩
abbrev S12288x1 : Shape := ⟨2, ![12288, 1]⟩
abbrev S12288x128 : Shape := ⟨2, ![12288, 128]⟩
abbrev S1 : Shape := ⟨1, ![1]⟩
abbrev S3 : Shape := ⟨1, ![3]⟩
abbrev S2x8x1024 : Shape := ⟨3, ![2, 8, 1024]⟩
abbrev S2048x1024 : Shape := ⟨2, ![2048, 1024]⟩
abbrev S2048x128 : Shape := ⟨2, ![2048, 128]⟩
abbrev S1024x1024 : Shape := ⟨2, ![1024, 1024]⟩
abbrev S128x8x1024 : Shape := ⟨3, ![128, 8, 1024]⟩
abbrev S1x8x1024 : Shape := ⟨3, ![1, 8, 1024]⟩
abbrev S8x1024 : Shape := ⟨2, ![8, 1024]⟩
abbrev S1024x2048 : Shape := ⟨2, ![1024, 2048]⟩
abbrev S1024x128 : Shape := ⟨2, ![1024, 128]⟩

abbrev nBuf : Space → Nat
  | .hbm => 30
  | .vmem => 22
  | .smem => 1
  | _ => 0

abbrev bufTy : (tb : Table) → Fin (tcTables nBuf tb) → BufTy
  | .hbm, ⟨0, _⟩ => ⟨S3x4096x7168, .bf16⟩
  | .hbm, ⟨1, _⟩ => ⟨S3x4096x18432, .fp8e5m2⟩
  | .hbm, ⟨2, _⟩ => ⟨S3x4096, .f32⟩
  | .hbm, ⟨3, _⟩ => ⟨S7168x18432, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S12288x7168, .bf16⟩
  | .hbm, ⟨8, _⟩ => ⟨S12288x18432, .fp8e5m2⟩
  | .hbm, ⟨9, _⟩ => ⟨S12288x1, .f32⟩
  | .hbm, ⟨10, _⟩ => ⟨S12288x128, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S3, .f32⟩
  | .hbm, ⟨15, _⟩ => ⟨S12288x128, .bf16⟩
  | .hbm, ⟨16, _⟩ => ⟨S7168x18432, .f32⟩
  | .hbm, ⟨17, _⟩ => ⟨S7168x18432, .bf16⟩
  | .hbm, ⟨18, _⟩ => ⟨S2x8x1024, .f32⟩
  | .hbm, ⟨19, _⟩ => ⟨S12288x7168, .bf16⟩
  | .hbm, ⟨20, _⟩ => ⟨S3x4096x7168, .bf16⟩
  | .hbm, ⟨21, _⟩ => ⟨S1x8x1024, .f32⟩
  | .hbm, ⟨22, _⟩ => ⟨S8x1024, .f32⟩
  | .hbm, ⟨23, _⟩ => ⟨S_, .f32⟩
  | .hbm, ⟨24, _⟩ => ⟨S_, .f32⟩
  | .hbm, ⟨25, _⟩ => ⟨S1x8x1024, .f32⟩
  | .hbm, ⟨26, _⟩ => ⟨S8x1024, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .fp8e5m2⟩
  | .local _ .vmem, ⟨3, _⟩ => ⟨S2048x1024, .fp8e5m2⟩
  | .local _ .vmem, ⟨4, _⟩ => ⟨S2048x128, .bf16⟩
  | .local _ .vmem, ⟨5, _⟩ => ⟨S2048x128, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S2x8x1024, .f32⟩
  | .local _ .vmem, ⟨13, _⟩ => ⟨S1024x2048, .fp8e5m2⟩
  | .local _ .vmem, ⟨14, _⟩ => ⟨S1024x2048, .fp8e5m2⟩
  | .local _ .vmem, ⟨15, _⟩ => ⟨S1024x2048, .bf16⟩
  | .local _ .vmem, ⟨16, _⟩ => ⟨S1024x2048, .bf16⟩
  | .local _ .vmem, ⟨17, _⟩ => ⟨S1024x128, .f32⟩
  | .local _ .vmem, ⟨18, _⟩ => ⟨S1024x128, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .smem, ⟨0, _⟩ => ⟨S3, .f32⟩
  | _, _ => ⟨S3x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨3, ![7, 18, 6], ![false, false, false]⟩

def k0_cond3 (i : grid0.Coords) : BitVec 1 :=
  let arg2 : BitVec 32 := BitVec.ofNat 32 (i 2).val
  let c5_i32 : BitVec 32 := 5#32
  let v24 : BitVec 1 := Scalar.cmpi .eq arg2 c5_i32
  let v25 : BitVec 32 := Scalar.extui v24
  let c0_i32_14 : BitVec 32 := 0#32
  let v26 : BitVec 1 := Scalar.cmpi .ne v25 c0_i32_14
  v26

def k0_cond2 (i : grid0.Coords) : BitVec 1 :=
  let arg0 : BitVec 32 := BitVec.ofNat 32 (i 0).val
  let c0_i32_10 : BitVec 32 := 0#32
  let v17 : BitVec 1 := Scalar.cmpi .eq arg0 c0_i32_10
  let arg1 : BitVec 32 := BitVec.ofNat 32 (i 1).val
  let c0_i32_11 : BitVec 32 := 0#32
  let v18 : BitVec 1 := Scalar.cmpi .eq arg1 c0_i32_11
  let v19 : BitVec 1 := Scalar.andi v17 v18
  let arg2 : BitVec 32 := BitVec.ofNat 32 (i 2).val
  let c0_i32_12 : BitVec 32 := 0#32
  let v20 : BitVec 1 := Scalar.cmpi .eq arg2 c0_i32_12
  let v21 : BitVec 1 := Scalar.andi v19 v20
  let v22 : BitVec 32 := Scalar.extui v21
  let c0_i32_13 : BitVec 32 := 0#32
  let v23 : BitVec 1 := Scalar.cmpi .ne v22 c0_i32_13
  v23

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S2x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev grid1 : Pipeline.Grid := ⟨3, ![12, 7, 9], ![false, false, false]⟩

def k1_cond2 (i : grid1.Coords) : BitVec 1 :=
  let arg2 : BitVec 32 := BitVec.ofNat 32 (i 2).val
  let c8_i32 : BitVec 32 := 8#32
  let v14 : BitVec 1 := Scalar.cmpi .eq arg2 c8_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ReferenceIdeal.lean ====
abbrev S3x4096x7168 : Shape := ⟨3, ![3, 4096, 7168]⟩
abbrev S3x4096x18432 : Shape := ⟨3, ![3, 4096, 18432]⟩
abbrev S3x4096 : Shape := ⟨2, ![3, 4096]⟩
abbrev S7168x18432 : Shape := ⟨2, ![7168, 18432]⟩
abbrev S_ : Shape := ⟨0, ![]⟩
abbrev S3x4096x1 : Shape := ⟨3, ![3, 4096, 1]⟩

abbrev nBuf : Space → Nat
  | .hbm => 51
  | .vmem => 2
  | .smem => 0
  | _ => 0

abbrev bufTy : (tb : Table) → Fin (tcTables nBuf tb) → BufTy
  | .hbm, ⟨0, _⟩ => ⟨S3x4096x7168, .bf16⟩
  | .hbm, ⟨1, _⟩ => ⟨S3x4096x18432, .fp8e5m2⟩
  | .hbm, ⟨2, _⟩ => ⟨S3x4096, .f32⟩
  | .hbm, ⟨3, _⟩ => ⟨S7168x18432, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S7168x18432, .f32⟩
  | .hbm, ⟨8, _⟩ => ⟨S7168x18432, .i1⟩
  | .hbm, ⟨9, _⟩ => ⟨S_, .f32⟩
  | .hbm, ⟨10, _⟩ => ⟨S7168x18432, .f32⟩
  | .hbm, ⟨11, _⟩ => ⟨S7168x18432, .i1⟩
  | .hbm, ⟨12, _⟩ => ⟨S3x4096x18432, .bf16⟩
  | .hbm, ⟨13, _⟩ => ⟨S3x4096, .bf16⟩
  | .hbm, ⟨14, _⟩ => ⟨S3x4096x1, .bf16⟩
  | .hbm, ⟨15, _⟩ => ⟨S3x4096x18432, .bf16⟩
  | .hbm, ⟨16, _⟩ => ⟨S3x4096x18432, .bf16⟩
  | .hbm, ⟨17, _⟩ => ⟨S7168x18432, .f32⟩
  | .hbm, ⟨18, _⟩ => ⟨S7168x18432, .f32⟩
  | .hbm, ⟨19, _⟩ => ⟨S7168x18432, .f32⟩
  | .hbm, ⟨20, _⟩ => ⟨S7168x18432, .f32⟩
  | .hbm, ⟨21, _⟩ => ⟨S7168x18432, .f32⟩
  | .hbm, ⟨22, _⟩ => ⟨S7168x18432, .f32⟩
  | .hbm, ⟨23, _⟩ => ⟨S7168x18432, .f32⟩
  | .hbm, ⟨24, _⟩ => ⟨S_, .f32⟩
  | .hbm, ⟨25, _⟩ => ⟨S_, .f32⟩
  | .hbm, ⟨26, _⟩ => ⟨S7168x18432, .f32⟩
  | .hbm, ⟨27, _⟩ => ⟨S7168x18432, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S7168x18432, .f32⟩
  | .hbm, ⟨33, _⟩ => ⟨S7168x18432, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S7168x18432, .f32⟩
  | .hbm, ⟨41, _⟩ => ⟨S7168x18432, .f32⟩
  | .hbm, ⟨42, _⟩ => ⟨S7168x18432, .f32⟩
  | .hbm, ⟨43, _⟩ => ⟨S7168x18432, .f32⟩
  | .hbm, ⟨44, _⟩ => ⟨S7168x18432, .f32⟩
  | .hbm, ⟨45, _⟩ => ⟨S7168x18432, .bf16⟩
  | .hbm, ⟨46, _⟩ => ⟨S3x4096x7168, .f32⟩
  | .hbm, ⟨47, _⟩ => ⟨S3x4096x1, .f32⟩
  | .hbm, ⟨48, _⟩ => ⟨S3x4096x7168, .f32⟩
  | .hbm, ⟨49, _⟩ => ⟨S3x4096x7168, .f32⟩
  | .hbm, ⟨50, _⟩ => ⟨S3x4096x7168, .bf16⟩
  | .local _ .vmem, ⟨0, _⟩ => ⟨S3x4096x18432, .fp8e5m2⟩
  | .local _ .vmem, ⟨1, _⟩ => ⟨S3x4096x18432, .bf16⟩
  | _, _ => ⟨S3x4096x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_call3_v0 : Ref sig .tc := ⟨.hbm, 31, rfl⟩
abbrev main_call3_v1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_v23 : Ref sig .tc := ⟨.hbm, 42, rfl⟩
abbrev main_call5_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x4096x18432 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x18432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.K.Transfer.lean ====
module

public import proofs.«01_k».proof.Defs
public import proofs.«01_k».proof.Proof.Gen.Kernel
public import proofs.«01_k».proof.Proof.Gen.KernelIdeal
public import Idealize.ShloMosaic.Lib.Tactic
public import Idealize.ShloMosaic.Lib.Ring

/-! The two printings of the kernel are one program: the statement that it ends with its arguments as launched and every
    semaphore counter at zero is the same proposition for both. -/

@[expose] public section

namespace Cert.Own

open Idealize.ShloMosaic Idealize.ShloMosaic.Tactic Idealize.SL.Sem

variable (F : FTy → Type) [FloatOps F]

/-- The kernel as printed: every run ends with the arguments as launched and the counters at zero. -/
def FrameK [Cert.Kernel.Facts] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)) ∧ r.2.sem = fun _ => 0)

/-- The same of the kernel as printed for the extended reals. -/
def FrameKI [Cert.KernelIdeal.Facts] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0)

/-- One proposition. -/
theorem frame_eq : @FrameK F _ Cert.Kernel.Gen.facts = @FrameKI F _ Cert.KernelIdeal.Gen.facts := by sl_kernel_rfl

end Cert.Own
-- ==== Proof.K.Run0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore

/-! The body of the first call (`ttq_dw`) run once, in each of its four cases, on any staging memrefs: what it leaves in
    the output windows' buffers, named over what it found in the buffers that it reads. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, and what the body computes -/

/-- The inner grid coordinate is zero. -/
abbrev cond0_0 (i : grid0.Coords) : Prop := (Scalar.cmpi .ne (Scalar.extui (Scalar.cmpi .eq (BitVec.ofNat 32 (i 2).val) 0#32)) 0#32) = 1#1
/-- The first point of the grid. -/
abbrev cond0_1 (i : grid0.Coords) : Prop := k0_cond2 i = 1#1
/-- The inner grid coordinate is the last. -/
abbrev cond0_2 (i : grid0.Coords) : Prop := k0_cond3 i = 1#1

/-- The scaled gradient block, from the three constants, the accumulated gradient and the weights. -/
def dwOut (x0 : Vec F S3 .f32) (g w : Vec F S1024x1024 .f32) : Vec F S1024x1024 .f32 :=
  k0_pay4 (x0 (ix1 1)) (k0_pay6 g) (k0_pay7 (x0 (ix1 0)) w) (k0_pay8 (x0 (ix1 0)) w) (k0_pay11 (x0 (ix1 2))) k0_pay12

/-- The block of ternary weights, from the constants and the weights. -/
def wtOut (x0 : Vec F S3 .f32) (w : Vec F S1024x1024 .f32) : Vec F S1024x1024 .bf16 :=
  k0_pay5 (x0 (ix1 1)) (x0 (ix1 2)) (k0_pay7 (x0 (ix1 0)) w) (k0_pay8 (x0 (ix1 0)) w)

/-- The running sums with plane 0 updated. -/
def sums0 (x0 : Vec F S3 .f32) (g w : Vec F S1024x1024 .f32) (s : Vec F S2x8x1024 .f32) : Vec F S2x8x1024 .f32 :=
  VecWindow.put s ![0, 0, 0] S1x8x1024.size (k0_pay9 (x0 (ix1 0)) g w (VecWindow.window s ![0, 0, 0] S1x8x1024.size inb_S2x8x1024_S1x8x1024_0_0_0))

/-- The running sums with both planes updated. -/
def sums1 (x0 : Vec F S3 .f32) (g w : Vec F S1024x1024 .f32) (s : Vec F S2x8x1024 .f32) : Vec F S2x8x1024 .f32 :=
  VecWindow.put (sums0 x0 g w s) ![1, 0, 0] S1x8x1024.size
    (k0_pay10 (x0 (ix1 0)) g w (VecWindow.window s ![1, 0, 0] S1x8x1024.size inb_S2x8x1024_S1x8x1024_1_0_0))

/-- A scalar read off a whole memref at position `k` is the contents' entry there. -/
theorem scalar_read (arg3 : Memref sig .tc .smem S3 .f32) (harg3 : arg3.IsWhole) (x0 : Vec F S3 .f32) (k : Fin 3) (inb : ∀ a, (![k.val] : Fin 1 → ℕ) a + S1.size a ≤ S3.size a)
    (y : (Rect.unit (s := S3) ![k.val] S1.size inb).shape.Idx) :
    View.readAt (Elt F) arg3.view (Rect.unit (s := S3) ![k.val] S1.size inb).toLoadRect (harg3.unread x0) y = x0 (ix1 k) := by
  rw [View.readAt_apply, harg3.read_unread]
  refine congrArg x0 (funext fun a => Fin.ext ?_)
  obtain rfl : a = 0 := Subsingleton.elim _ _
  have hy : (y 0).val < 1 := (y 0).isLt
  show k.val + 1 * (y 0).val = k.val
  omega

section Runs

variable (c : Dev nD) (i : grid0.Coords) (arg3 : Memref sig .tc .smem S3 .f32) (harg3 : arg3.IsWhole) (arg4 : Memref sig .tc .vmem S2048x1024 .bf16) (harg4 : arg4.IsWhole) (arg5 : Memref sig .tc .vmem S2048x1024 .fp8e5m2) (harg5 : arg5.IsWhole) (arg6 : Memref sig .tc .vmem S2048x128 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S2x8x1024 .f32) (harg10 : arg10.IsWhole)
variable (x0 : Vec F S3 .f32) (x1 : Vec F S2048x1024 .bf16) (x2 : Vec F S2048x1024 .fp8e5m2) (x3 : Vec F S2048x128 .bf16) (x4 : Vec F S1024x1024 .f32) (xo5 : Vec F S1024x1024 .f32) (xo7 : Vec F S2x8x1024 .f32)

set_option maxHeartbeats 1000000 in
/-- At the first point of the grid: the accumulator is the first product over zeros and the sums are zeros. -/
theorem runA (hc0 : cond0_0 i) (hc1 : cond0_1 i) (hc2 : ¬cond0_2 i) (E : Set ℕ) (K : PUnit → sProp 𝕄) :
    iprop(owns (c : Thread nD τ) arg4 fullShare x1 ∗ owns (c : Thread nD τ) arg5 fullShare x2 ∗ owns (c : Thread nD τ) arg6 fullShare x3 ∗ (∃ d, owns (c : Thread nD τ) arg8 fullShare d) ∗ (∃ d, owns (c : Thread nD τ) arg10 fullShare d)
        ∗ (iprop(owns (c : Thread nD τ) arg4 fullShare x1 ∗ owns (c : Thread nD τ) arg5 fullShare x2 ∗ owns (c : Thread nD τ) arg6 fullShare x3 ∗ owns (c : Thread nD τ) arg8 fullShare (k0_pay2 x3 x2 k0_pay1 x1) ∗ owns (c : Thread nD τ) arg10 fullShare k0_pay3) -∗ K ⟨⟩))
      ⊢ wp frame (wpE (defs₀ (F := F)) Variants.none c none) E (cc0_ttq_dw i arg3 harg3 arg4 harg4 arg5 harg5 arg6 harg6 arg7 harg7 arg8 harg8 arg9 harg9 arg10 harg10) K := by
  simp only [cc0_ttq_dw_eq_skeleton]; unfold cc0_ttq_dw_skel
  skip
  unfold owns
  iintro ⟨⟨%f4, %hf4, H4⟩, ⟨%f5, %hf5, H5⟩, ⟨%f6, %hf6, H6⟩, ⟨%d8, %f8, -, H8⟩, ⟨%d10, %f10, -, H10⟩, Hk⟩
  obtain rfl := harg4.eq_unread hf4; obtain rfl := harg5.eq_unread hf5; obtain rfl := harg6.eq_unread hf6
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H8]
  · iexists _; isplitr
    swap; · iexact H8
    ipureintro
    rw [View.read_writes_full]; unfold runA.sl.v10 runA.sl.H8_1; rw [View.readAt_full, View.readAt_full, View.readAt_full, View.readCov_full, harg4.read_unread, harg5.read_unread, harg6.read_unread]
  iexists _; isplitr
  swap; · iexact H10
  ipureintro
  exact View.read_writes_full _ _ _ _ _

set_option maxHeartbeats 1000000 in
/-- At a later point where the inner coordinate is zero: the accumulator is the first product over zeros. -/
theorem runD (hc0 : cond0_0 i) (hc1 : ¬cond0_1 i) (hc2 : ¬cond0_2 i) (E : Set ℕ) (K : PUnit → sProp 𝕄) :
    iprop(owns (c : Thread nD τ) arg4 fullShare x1 ∗ owns (c : Thread nD τ) arg5 fullShare x2 ∗ owns (c : Thread nD τ) arg6 fullShare x3 ∗ (∃ d, owns (c : Thread nD τ) arg8 fullShare d)
        ∗ (iprop(owns (c : Thread nD τ) arg4 fullShare x1 ∗ owns (c : Thread nD τ) arg5 fullShare x2 ∗ owns (c : Thread nD τ) arg6 fullShare x3 ∗ owns (c : Thread nD τ) arg8 fullShare (k0_pay2 x3 x2 k0_pay1 x1)) -∗ K ⟨⟩))
      ⊢ wp frame (wpE (defs₀ (F := F)) Variants.none c none) E (cc0_ttq_dw i arg3 harg3 arg4 harg4 arg5 harg5 arg6 harg6 arg7 harg7 arg8 harg8 arg9 harg9 arg10 harg10) K := by
  simp only [cc0_ttq_dw_eq_skeleton]; unfold cc0_ttq_dw_skel
  skip
  unfold owns
  iintro ⟨⟨%f4, %hf4, H4⟩, ⟨%f5, %hf5, H5⟩, ⟨%f6, %hf6, H6⟩, ⟨%d8, %f8, -, H8⟩, Hk⟩
  obtain rfl := harg4.eq_unread hf4; obtain rfl := harg5.eq_unread hf5; obtain rfl := harg6.eq_unread hf6
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H8
  ipureintro
  rw [View.read_writes_full]; unfold runD.sl.v10 runD.sl.H8_1; rw [View.readAt_full, View.readAt_full, View.readAt_full, View.readCov_full, harg4.read_unread, harg5.read_unread, harg6.read_unread]

set_option maxHeartbeats 1000000 in
/-- At a point strictly inside a run of the inner coordinate: one more product is added. -/
theorem runB (hc0 : ¬cond0_0 i) (hc1 : ¬cond0_1 i) (hc2 : ¬cond0_2 i) (E : Set ℕ) (K : PUnit → sProp 𝕄) :
    iprop(owns (c : Thread nD τ) arg4 fullShare x1 ∗ owns (c : Thread nD τ) arg5 fullShare x2 ∗ owns (c : Thread nD τ) arg6 fullShare x3 ∗ owns (c : Thread nD τ) arg8 fullShare xo5
        ∗ (iprop(owns (c : Thread nD τ) arg4 fullShare x1 ∗ owns (c : Thread nD τ) arg5 fullShare x2 ∗ owns (c : Thread nD τ) arg6 fullShare x3 ∗ owns (c : Thread nD τ) arg8 fullShare (k0_pay2 x3 x2 xo5 x1)) -∗ K ⟨⟩))
      ⊢ wp frame (wpE (defs₀ (F := F)) Variants.none c none) E (cc0_ttq_dw i arg3 harg3 arg4 harg4 arg5 harg5 arg6 harg6 arg7 harg7 arg8 harg8 arg9 harg9 arg10 harg10) K := by
  simp only [cc0_ttq_dw_eq_skeleton]; unfold cc0_ttq_dw_skel
  skip
  unfold owns
  iintro ⟨⟨%f4, %hf4, H4⟩, ⟨%f5, %hf5, H5⟩, ⟨%f6, %hf6, H6⟩, ⟨%f8, %hf8, H8⟩, Hk⟩
  obtain rfl := harg4.eq_unread hf4; obtain rfl := harg5.eq_unread hf5; obtain rfl := harg6.eq_unread hf6; obtain rfl := harg8.eq_unread hf8
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H8
  ipureintro
  rw [View.read_writes_full, View.readAt_full, View.readAt_full, View.readAt_full, View.readAt_full, harg4.read_unread, harg5.read_unread, harg6.read_unread, harg8.read_unread]

set_option maxHeartbeats 1000000 in
/-- At the last point of a run: the last product is added, then the block is scaled, the ternary weights written, the sums updated. -/
theorem runC (hc0 : ¬cond0_0 i) (hc1 : ¬cond0_1 i) (hc2 : cond0_2 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ d, owns (c : Thread nD τ) arg9 fullShare d) ∗ owns (c : Thread nD τ) arg10 fullShare xo7
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (dwOut x0 (k0_pay2 x3 x2 xo5 x1) x4) ∗ owns (c : Thread nD τ) arg9 fullShare (wtOut x0 x4) ∗ owns (c : Thread nD τ) arg10 fullShare (sums1 x0 (k0_pay2 x3 x2 xo5 x1) x4 xo7)) -∗ K ⟨⟩))
      ⊢ wp frame (wpE (defs₀ (F := F)) Variants.none c none) E (cc0_ttq_dw i arg3 harg3 arg4 harg4 arg5 harg5 arg6 harg6 arg7 harg7 arg8 harg8 arg9 harg9 arg10 harg10) K := by
  simp only [cc0_ttq_dw_eq_skeleton]; unfold cc0_ttq_dw_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
  sl_exec (disch := first | sl_exact hc0 | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    rw [View.read_writes_full]
    unfold runC.sl.r_1 runC.sl.r_3 runC.sl.r_4 runC.sl.r_5 runC.sl.r_6 runC.sl.r_2 runC.sl.v30 runC.sl.r dwOut
    try unfold runC.sl.H8_1
    erw [scalar_read _ _ _ 0, scalar_read _ _ _ 1, scalar_read _ _ _ 2]
    rw [View.readCov_full, View.readAt_full, View.readAt_full, View.readAt_full, View.readAt_full, View.readAt_full, harg4.read_unread, harg5.read_unread, harg6.read_unread, harg7.read_unread, harg8.read_unread]
  isplitl [H9]
  · iexists _; isplitr
    swap; · iexact H9
    ipureintro
    rw [View.read_writes_full]
    unfold runC.sl.r_1 runC.sl.r_4 runC.sl.r_5 runC.sl.r_2 runC.sl.r wtOut
    erw [scalar_read _ _ _ 0, scalar_read _ _ _ 1, scalar_read _ _ _ 2]
    rw [View.readAt_full, harg7.read_unread]
  iexists _; isplitr
  swap; · iexact H10
  ipureintro
  rw [View.read_writes_cons_put _ _ _ _ _ rfl, View.read_writes_cons_put _ _ _ _ _ rfl]
  unfold runC.sl.v30 runC.sl.r runC.sl.v51 sums1 sums0
  try unfold runC.sl.H8_1
  erw [scalar_read _ _ _ 0]
  rw [View.writes_nil, View.readCov_full, View.readAt_full, View.readAt_full, View.readAt_full, View.readAt_full, View.readAt_full, View.readAt_unit _ _ _ _ inb_S2x8x1024_S1x8x1024_0_0_0, View.readAt_unit _ _ _ _ inb_S2x8x1024_S1x8x1024_1_0_0, harg4.read_unread, harg5.read_unread, harg6.read_unread, harg7.read_unread, harg8.read_unread, harg10.read_unread]
  all_goals rfl

end Runs

end Cert.KernelIdeal.Own

end
-- ==== Proof.K.Dat0.lean ====
module

public import proofs.«01_k».proof.Proof.K.Run0

/-! The first call's proof data over any contents of its arrays at entry: what every window's buffer holds after each grid
    point, and that the body takes the buffers from one point to the next. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The branch conditions over the points -/

theorem hcond0_0 : ∀ t : Fin cfg0.N, cond0_0 (grid0.coords t) ↔ t.val % 6 = 0 :=
  (fun t => by
    have ht : t.val < 756 := Nat.lt_of_lt_of_eq t.isLt N_0
    have e0 : (grid0.coords t 0).val = t.val / 108 % 7 := Pipeline.Grid.coords_val t 0 (by decide) rfl
    have e1 : (grid0.coords t 1).val = t.val / 6 % 18 := Pipeline.Grid.coords_val t 1 (by decide) rfl
    have e2 : (grid0.coords t 2).val = t.val / 1 % 6 := Pipeline.Grid.coords_val t 2 (by decide) rfl
    simp only [cond0_0, e0, e1, e2]
    word_cmp
   : ∀ t : Fin grid0.N, cond0_0 (grid0.coords t) ↔ t.val % 6 = 0)

theorem hcond0_1 : ∀ t : Fin cfg0.N, cond0_1 (grid0.coords t) ↔ t.val % 756 = 0 :=
  (fun t => by
    have ht : t.val < 756 := Nat.lt_of_lt_of_eq t.isLt N_0
    have e0 : (grid0.coords t 0).val = t.val / 108 % 7 := Pipeline.Grid.coords_val t 0 (by decide) rfl
    have e1 : (grid0.coords t 1).val = t.val / 6 % 18 := Pipeline.Grid.coords_val t 1 (by decide) rfl
    have e2 : (grid0.coords t 2).val = t.val / 1 % 6 := Pipeline.Grid.coords_val t 2 (by decide) rfl
    simp only [cond0_1, k0_cond2, e0, e1, e2]
    word_cmp
   : ∀ t : Fin grid0.N, cond0_1 (grid0.coords t) ↔ t.val % 756 = 0)

theorem hcond0_2 : ∀ t : Fin cfg0.N, cond0_2 (grid0.coords t) ↔ t.val % 6 = 5 :=
  (fun t => by
    have ht : t.val < 756 := Nat.lt_of_lt_of_eq t.isLt N_0
    have e0 : (grid0.coords t 0).val = t.val / 108 % 7 := Pipeline.Grid.coords_val t 0 (by decide) rfl
    have e1 : (grid0.coords t 1).val = t.val / 6 % 18 := Pipeline.Grid.coords_val t 1 (by decide) rfl
    have e2 : (grid0.coords t 2).val = t.val / 1 % 6 := Pipeline.Grid.coords_val t 2 (by decide) rfl
    simp only [cond0_2, k0_cond3, e0, e1, e2]
    word_cmp
   : ∀ t : Fin grid0.N, cond0_2 (grid0.coords t) ↔ t.val % 6 = 5)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6 : ∀ t : Fin cfg0.N, ¬t.val % 6 = 5 → cfg0.idle 6 (grid0.coords t) = true := by decide +kernel
theorem noFlush0_6 : ∀ t : Fin cfg0.N, ¬t.val % 6 = 5 → (cfg0.win 6).flush t = false :=
  fun t h => Bool.eq_false_iff.mpr fun hf => h ((flush0_6 t).mp hf)
theorem liveAt0_6 : ∀ t : Fin cfg0.N, t.val % 6 = 5 → cfg0.idle 6 (grid0.coords t) = false := by decide +kernel
theorem idleAt0_7 : ∀ t : Fin cfg0.N, ¬t.val % 756 = 0 → ¬t.val % 6 = 5 → cfg0.idle 7 (grid0.coords t) = true := by decide +kernel
theorem noFlush0_7 : ∀ t : Fin cfg0.N, ¬t.val % 6 = 5 → (cfg0.win 7).flush t = false :=
  fun t h => Bool.eq_false_iff.mpr fun hf => by have := (flush0_7 t).mp hf; omega
theorem liveAt0_7_A : ∀ t : Fin cfg0.N, t.val % 756 = 0 → cfg0.idle 7 (grid0.coords t) = false := by decide +kernel
theorem liveAt0_7_C : ∀ t : Fin cfg0.N, t.val % 6 = 5 → cfg0.idle 7 (grid0.coords t) = false := by decide +kernel

/-- Whether the sums' buffer holds nothing that the body stored: only before the first point and after the last. -/
def freshTab0_7 (n : ℕ) : Bool := n == 0 || n == 756
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
theorem notFresh0_7 (t : Fin cfg0.N) (h : ¬t.val % 756 = 0) : cfg0.fresh 7 t.val = false := by
  have hN : t.val < 756 := lt_of_lt_of_eq t.isLt (show cfg0.N = 756 from N_0)
  rw [fresh0_7_eq t]; unfold freshTab0_7
  have h1 : (t.val == 0) = false := by rw [beq_eq_false_iff_ne]; omega
  have h2 : (t.val == 756) = false := by rw [beq_eq_false_iff_ne]; omega
  rw [h1, h2]; rfl

/-! ## Each window's current buffer -/
abbrev ms0_0 (t : Fin cfg0.N) : Memref sig .tc .smem S3 .f32 := win0_0.stage (cfg0.slots t 0)
abbrev ms0_1 (t : Fin cfg0.N) : Memref sig .tc .vmem S2048x1024 .bf16 := win0_1.stage (cfg0.slots t 1)
abbrev ms0_2 (t : Fin cfg0.N) : Memref sig .tc .vmem S2048x1024 .fp8e5m2 := win0_2.stage (cfg0.slots t 2)
abbrev ms0_3 (t : Fin cfg0.N) : Memref sig .tc .vmem S2048x128 .bf16 := win0_3.stage (cfg0.slots t 3)
abbrev ms0_4 (t : Fin cfg0.N) : Memref sig .tc .vmem S1024x1024 .f32 := win0_4.stage (cfg0.slots t 4)
abbrev ms0_5 (t : Fin cfg0.N) : Memref sig .tc .vmem S1024x1024 .f32 := win0_5.stage (cfg0.slots t 5)
abbrev ms0_6 (t : Fin cfg0.N) : Memref sig .tc .vmem S1024x1024 .bf16 := win0_6.stage (cfg0.slots t 6)
abbrev ms0_7 (t : Fin cfg0.N) : Memref sig .tc .vmem S2x8x1024 .f32 := win0_7.stage (cfg0.slots t 7)

/-! ## What the output buffers hold after each point -/

/-- The accumulator after position `n`: the run of products since the inner coordinate was last zero. -/
def gAcc (c : Dev nD) : (n : ℕ) → n < cfg0.N → Vec F S1024x1024 .f32
  | 0, hn => k0_pay2 (blk0 V c 3 ⟨0, hn⟩) (blk0 V c 2 ⟨0, hn⟩) k0_pay1 (blk0 V c 1 ⟨0, hn⟩)
  | n + 1, hn => k0_pay2 (blk0 V c 3 ⟨n + 1, hn⟩) (blk0 V c 2 ⟨n + 1, hn⟩)
      (if (n + 1) % 6 = 0 then k0_pay1 else gAcc c n (Nat.lt_of_succ_lt hn)) (blk0 V c 1 ⟨n + 1, hn⟩)

/-- The running sums after position `n`: updated at every point where the inner coordinate is the last. -/
def sAcc (c : Dev nD) : (n : ℕ) → n < cfg0.N → Vec F S2x8x1024 .f32
  | 0, _ => k0_pay3
  | n + 1, hn => if (n + 1) % 6 = 5 then sums1 (blk0 V c 0 ⟨n + 1, hn⟩) (gAcc V c (n + 1) hn) (blk0 V c 4 ⟨n + 1, hn⟩) (sAcc c n (Nat.lt_of_succ_lt hn))
      else sAcc c n (Nat.lt_of_succ_lt hn)

theorem gAcc_start (c : Dev nD) (t : Fin cfg0.N) (h : t.val % 6 = 0) :
    gAcc V c t.val t.isLt = k0_pay2 (blk0 V c 3 t) (blk0 V c 2 t) k0_pay1 (blk0 V c 1 t) := by
  obtain ⟨n, hn⟩ := t
  cases n with
  | zero => rfl
  | succ n => show k0_pay2 _ _ (if (n + 1) % 6 = 0 then k0_pay1 else _) _ = _; rw [if_pos h]

theorem gAcc_next (c : Dev nD) (t : Fin cfg0.N) (h : ¬t.val % 6 = 0) :
    gAcc V c t.val t.isLt = k0_pay2 (blk0 V c 3 t) (blk0 V c 2 t) (gAcc V c (t.val - 1) (Nat.lt_of_le_of_lt (Nat.sub_le _ _) t.isLt)) (blk0 V c 1 t) := by
  obtain ⟨n, hn⟩ := t
  cases n with
  | zero => exact absurd (Nat.zero_mod _) h
  | succ n => show k0_pay2 _ _ (if (n + 1) % 6 = 0 then k0_pay1 else _) _ = _; rw [if_neg h]; rfl

theorem sAcc_first (c : Dev nD) (t : Fin cfg0.N) (h : t.val = 0) : sAcc V c t.val t.isLt = k0_pay3 := by
  obtain ⟨n, hn⟩ := t
  cases n with
  | zero => rfl
  | succ n => exact absurd h (Nat.succ_ne_zero n)

theorem sAcc_last (c : Dev nD) (t : Fin cfg0.N) (h : t.val % 6 = 5) :
    sAcc V c t.val t.isLt = sums1 (blk0 V c 0 t) (gAcc V c t.val t.isLt) (blk0 V c 4 t) (sAcc V c (t.val - 1) (Nat.lt_of_le_of_lt (Nat.sub_le _ _) t.isLt)) := by
  obtain ⟨n, hn⟩ := t
  cases n with
  | zero => exact absurd h (by show ¬(0 % 6 = 5); omega)
  | succ n => exact if_pos h

theorem sAcc_keep (c : Dev nD) (t : Fin cfg0.N) (h0 : t.val ≠ 0) (h : ¬t.val % 6 = 5) :
    sAcc V c t.val t.isLt = sAcc V c (t.val - 1) (Nat.lt_of_le_of_lt (Nat.sub_le _ _) t.isLt) := by
  obtain ⟨n, hn⟩ := t
  cases n with
  | zero => exact absurd rfl h0
  | succ n => exact if_neg h

/-- The gradient block's buffer after point `t`. -/
def dwAt (c : Dev nD) (t : Fin cfg0.N) : Vec F S1024x1024 .f32 :=
  if t.val % 6 = 5 then dwOut (blk0 V c 0 t) (gAcc V c t.val t.isLt) (blk0 V c 4 t) else gAcc V c t.val t.isLt

/-! ## The proof data -/

/-- The first call's proof data: every array as found, every input's buffer at its block, the outputs' as above. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => dwAt V c t
    | ⟨6, _⟩ => wtOut (blk0 V c 0 t) (blk0 V c 4 t)
    | ⟨7, _⟩ => sAcc V c t.val t.isLt
  Φ _ := Pipeline.ΦA spec0 c
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = dwAt V c t := by dsimp only [dat0]
theorem after0_6 (c : Dev nD) (t : Fin cfg0.N) : (dat0 V c).after 6 t = wtOut (blk0 V c 0 t) (blk0 V c 4 t) := by dsimp only [dat0]
theorem after0_7 (c : Dev nD) (t : Fin cfg0.N) : (dat0 V c).after 7 t = sAcc V c t.val t.isLt := by dsimp only [dat0]
theorem before0_0 (c : Dev nD) (t : Fin cfg0.N) (d) : (dat0 V c).before 0 t d = blk0 V c 0 t :=
  before0_0_of V (dat0 V c) (A0_eq V c 0) (after0_0 V c) t d
theorem before0_1 (c : Dev nD) (t : Fin cfg0.N) (d) : (dat0 V c).before 1 t d = blk0 V c 1 t :=
  before0_1_of V (dat0 V c) (A0_eq V c 1) (after0_1 V c) t d
theorem before0_2 (c : Dev nD) (t : Fin cfg0.N) (d) : (dat0 V c).before 2 t d = blk0 V c 2 t :=
  before0_2_of V (dat0 V c) (A0_eq V c 2) (after0_2 V c) t d
theorem before0_3 (c : Dev nD) (t : Fin cfg0.N) (d) : (dat0 V c).before 3 t d = blk0 V c 3 t :=
  before0_3_of V (dat0 V c) (A0_eq V c 3) (after0_3 V c) t d
theorem before0_4 (c : Dev nD) (t : Fin cfg0.N) (d) : (dat0 V c).before 4 t d = blk0 V c 4 t :=
  before0_4_of V (dat0 V c) (A0_eq V c 4) (after0_4 V c) t d

/-- The sums' contents carry through the points that leave the window idle. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t h0 hi _
  rw [after0_7, after0_7]
  by_cases h2 : t.val % 6 = 5
  · rw [liveAt0_7_C t h2] at hi; exact absurd hi Bool.false_ne_true
  · exact sAcc_keep V c t h0 h2

theorem before0_5 (c : Dev nD) (t : Fin cfg0.N) (h0 : ¬t.val % 6 = 0) (d) :
    (dat0 V c).before 5 t d = gAcc V c (t.val - 1) (Nat.lt_of_le_of_lt (Nat.sub_le _ _) t.isLt) := by
  have hN : t.val < 756 := lt_of_lt_of_eq t.isLt (show cfg0.N = 756 from N_0)
  rw [Dat.before_out_kept _ 5 rfl t (by omega) (Bool.eq_false_iff.mpr fun h => by have := (flush0_5 _).mp h; dsimp only at this; omega)
    (fun _ => rfl) (fun _ _ => rfl), after0_5]
  unfold dwAt
  rw [if_neg (by dsimp only; omega)]

theorem before0_7 (c : Dev nD) (t : Fin cfg0.N) (h1 : ¬t.val % 756 = 0) (d) :
    (dat0 V c).before 7 t d = sAcc V c (t.val - 1) (Nat.lt_of_le_of_lt (Nat.sub_le _ _) t.isLt) := by
  rw [Dat.before_out_traj _ 7 rfl (fun _ _ => rfl) (hcarry0_7 V c) t.val t rfl d, if_neg (by rw [notFresh0_7 t h1]; exact Bool.false_ne_true)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
theorem leaves0_3 (c : Dev nD) (t : Fin cfg0.N) : (dat0 V c).leavesExact 3 t = owns (c : Thread nD τ) (ms0_3 t) fullShare ((dat0 V c).after 3 t) := by
  unfold Dat.leavesExact; rw [liveAt0_3 t]
theorem leaves0_4 (c : Dev nD) (t : Fin cfg0.N) : (dat0 V c).leavesExact 4 t = owns (c : Thread nD τ) (ms0_4 t) fullShare ((dat0 V c).after 4 t) := by
  unfold Dat.leavesExact; rw [liveAt0_4 t]
theorem leaves0_5 (c : Dev nD) (t : Fin cfg0.N) : (dat0 V c).leavesExact 5 t = owns (c : Thread nD τ) (ms0_5 t) fullShare ((dat0 V c).after 5 t) := by
  unfold Dat.leavesExact; rw [liveAt0_5 t]
theorem leaves0_6 (c : Dev nD) (t : Fin cfg0.N) (h : t.val % 6 = 5) : (dat0 V c).leavesExact 6 t = owns (c : Thread nD τ) (ms0_6 t) fullShare ((dat0 V c).after 6 t) := by
  unfold Dat.leavesExact; rw [liveAt0_6 t h]
theorem leaves0_7_A (c : Dev nD) (t : Fin cfg0.N) (h : t.val % 756 = 0) : (dat0 V c).leavesExact 7 t = owns (c : Thread nD τ) (ms0_7 t) fullShare ((dat0 V c).after 7 t) := by
  unfold Dat.leavesExact; rw [liveAt0_7_A t h]
theorem leaves0_7_C (c : Dev nD) (t : Fin cfg0.N) (h : t.val % 6 = 5) : (dat0 V c).leavesExact 7 t = owns (c : Thread nD τ) (ms0_7 t) fullShare ((dat0 V c).after 7 t) := by
  unfold Dat.leavesExact; rw [liveAt0_7_C t h]

set_option maxHeartbeats 4800000 in
/-- The body's run at point `t`, from the buffers as the point finds them to the buffers as the next point expects them. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl, show (dat0 V c).owesAt () t.succ = (dat0 V c).owesAt () t.castSucc from rfl]
  rw [leaves0_0, leaves0_1, leaves0_2, leaves0_3, leaves0_4, leaves0_5, after0_0, after0_1, after0_2, after0_3, after0_4, after0_5]
  have hN : t.val < 756 := lt_of_lt_of_eq t.isLt (show cfg0.N = 756 from N_0)
  by_cases h0 : t.val % 6 = 0
  · have h2 : ¬t.val % 6 = 5 := by omega
    rw [Dat.leavesExact_idle (dat0 V c) 6 t (idleAt0_6 t h2) (noFlush0_6 t h2)]
    rw [show dwAt V c t = gAcc V c t.val t.isLt from if_neg h2, gAcc_start V c t h0]
    by_cases h1 : t.val % 756 = 0
    · rw [leaves0_7_A V c t h1, after0_7]
      rw [sAcc_first V c t (by omega)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runA c (grid0.coords t) _ _ _ _ _ _ _ _ _ _ _ _ _ _ _ _ (blk0 V c 1 t) (blk0 V c 2 t) (blk0 V c 3 t) ((hcond0_0 t).mpr h0) ((hcond0_1 t).mpr h1) (fun h => h2 ((hcond0_2 t).mp h)) Set.univ _)
      isplitl [H1]; · iexact H1
      isplitl [H2]; · iexact H2
      isplitl [H3]; · iexact H3
      isplitl [H5]; · iexists _; iexact H5
      isplitl [H7]; · iexists _; iexact H7
      iintro ⟨H1, H2, H3, H5, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexact H7
    · rw [Dat.leavesExact_idle (dat0 V c) 7 t (idleAt0_7 t h1 h2) (noFlush0_7 t h2)]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runD c (grid0.coords t) _ _ _ _ _ _ _ _ _ _ _ _ _ _ _ _ (blk0 V c 1 t) (blk0 V c 2 t) (blk0 V c 3 t) ((hcond0_0 t).mpr h0) (fun h => h1 ((hcond0_1 t).mp h)) (fun h => h2 ((hcond0_2 t).mp h)) Set.univ _)
      isplitl [H1]; · iexact H1
      isplitl [H2]; · iexact H2
      isplitl [H3]; · iexact H3
      isplitl [H5]; · iexists _; iexact H5
      iintro ⟨H1, H2, H3, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h1 : ¬t.val % 756 = 0 := by omega
    simp only [before0_5 V c t h0]
    by_cases h2 : t.val % 6 = 5
    · rw [leaves0_6 V c t h2, leaves0_7_C V c t h2, after0_6, after0_7]
      simp only [before0_7 V c t h1]
      rw [show dwAt V c t = dwOut (blk0 V c 0 t) (gAcc V c t.val t.isLt) (blk0 V c 4 t) from if_pos h2, sAcc_last V c t h2, gAcc_next V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ (blk0 V c 0 t) (blk0 V c 1 t) (blk0 V c 2 t) (blk0 V c 3 t) (blk0 V c 4 t) _ _ (fun h => h0 ((hcond0_0 t).mp h)) (fun h => h1 ((hcond0_1 t).mp h)) ((hcond0_2 t).mpr h2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat0 V c) 6 t (idleAt0_6 t h2) (noFlush0_6 t h2), Dat.leavesExact_idle (dat0 V c) 7 t (idleAt0_7 t h1 h2) (noFlush0_7 t h2)]
      rw [show dwAt V c t = gAcc V c t.val t.isLt from if_neg h2, gAcc_next V c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ (blk0 V c 1 t) (blk0 V c 2 t) (blk0 V c 3 t) _ (fun h => h0 ((hcond0_0 t).mp h)) (fun h => h1 ((hcond0_1 t).mp h)) (fun h => h2 ((hcond0_2 t).mp h)) Set.univ _)
      isplitl [H1]; · iexact H1
      isplitl [H2]; · iexact H2
      isplitl [H3]; · iexact H3
      isplitl [H5]; · iexact H5
      iintro ⟨H1, H2, H3, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

theorem defs₀_row0 (t : Fin cfg0.N) :
    defs₀ (F := F) .tc cfg0.body (cfg0.bodyArgs t (cfg0.slots t)) = bodyAt0 t := by
  unfold defs₀; rw [Defs.onTc_tc]
/-- The library's body obligation, at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.K.Run1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore

/-! The body of the second call (`ttq_dx`) run once, in each of its three cases, on any staging memrefs: what it leaves in
    the output windows' buffers, named over what it found in the buffers that it reads. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The inner grid coordinate is zero. -/
abbrev cond1_0 (i : grid1.Coords) : Prop := (Scalar.cmpi .ne (Scalar.extui (Scalar.cmpi .eq (BitVec.ofNat 32 (i 2).val) 0#32)) 0#32) = 1#1
/-- The inner grid coordinate is the last. -/
abbrev cond1_1 (i : grid1.Coords) : Prop := k1_cond2 i = 1#1

section Runs
variable (c : Dev nD) (i : grid1.Coords) (arg3 : Memref sig .tc .vmem S1024x2048 .fp8e5m2) (harg3 : arg3.IsWhole) (arg4 : Memref sig .tc .vmem S1024x2048 .bf16) (harg4 : arg4.IsWhole) (arg5 : Memref sig .tc .vmem S1024x128 .f32) (harg5 : arg5.IsWhole) (arg6 : Memref sig .tc .vmem S1024x1024 .bf16) (harg6 : arg6.IsWhole) (arg7 : Memref sig .tc .vmem S1024x1024 .f32) (harg7 : arg7.IsWhole)
variable (x0 : Vec F S1024x2048 .fp8e5m2) (x1 : Vec F S1024x2048 .bf16) (x2 : Vec F S1024x128 .f32) (xs : Vec F S1024x1024 .f32)

set_option maxHeartbeats 1000000 in
/-- At a point where the inner coordinate is zero: the accumulator is the first product over zeros. -/
theorem run1A (hc0 : cond1_0 i) (hc1 : ¬cond1_1 i) (E : Set ℕ) (K : PUnit → sProp 𝕄) :
    iprop(owns (c : Thread nD τ) arg3 fullShare x0 ∗ owns (c : Thread nD τ) arg4 fullShare x1 ∗ (∃ d, owns (c : Thread nD τ) arg7 fullShare d)
        ∗ (iprop(owns (c : Thread nD τ) arg3 fullShare x0 ∗ owns (c : Thread nD τ) arg4 fullShare x1 ∗ owns (c : Thread nD τ) arg7 fullShare (k1_pay2 k1_pay1 x0 x1)) -∗ K ⟨⟩))
      ⊢ wp frame (wpE (defs₀ (F := F)) Variants.none c none) E (cc1_ttq_dx i arg3 harg3 arg4 harg4 arg5 harg5 arg6 harg6 arg7 harg7) K := by
  simp only [cc1_ttq_dx_eq_skeleton]; unfold cc1_ttq_dx_skel
  unfold owns
  iintro ⟨⟨%f3, %hf3, H3⟩, ⟨%f4, %hf4, H4⟩, ⟨%d7, %f7, -, H7⟩, Hk⟩
  obtain rfl := harg3.eq_unread hf3; obtain rfl := harg4.eq_unread hf4
  sl_exec (disch := first | sl_exact hc0 | sl_exact hc1)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_full]; unfold run1A.sl.v3 run1A.sl.H7_1; rw [View.readAt_full, View.readAt_full, View.readCov_full, harg3.read_unread, harg4.read_unread]

set_option maxHeartbeats 1000000 in
/-- At a point strictly inside a run of the inner coordinate: one more product is added. -/
theorem run1B (hc0 : ¬cond1_0 i) (hc1 : ¬cond1_1 i) (E : Set ℕ) (K : PUnit → sProp 𝕄) :
    iprop(owns (c : Thread nD τ) arg3 fullShare x0 ∗ owns (c : Thread nD τ) arg4 fullShare x1 ∗ owns (c : Thread nD τ) arg7 fullShare xs
        ∗ (iprop(owns (c : Thread nD τ) arg3 fullShare x0 ∗ owns (c : Thread nD τ) arg4 fullShare x1 ∗ owns (c : Thread nD τ) arg7 fullShare (k1_pay2 xs x0 x1)) -∗ K ⟨⟩))
      ⊢ wp frame (wpE (defs₀ (F := F)) Variants.none c none) E (cc1_ttq_dx i arg3 harg3 arg4 harg4 arg5 harg5 arg6 harg6 arg7 harg7) K := by
  simp only [cc1_ttq_dx_eq_skeleton]; unfold cc1_ttq_dx_skel
  unfold owns
  iintro ⟨⟨%f3, %hf3, H3⟩, ⟨%f4, %hf4, H4⟩, ⟨%f7, %hf7, H7⟩, Hk⟩
  obtain rfl := harg3.eq_unread hf3; obtain rfl := harg4.eq_unread hf4; obtain rfl := harg7.eq_unread hf7
  sl_exec (disch := first | sl_exact hc0 | sl_exact hc1)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H7
  ipureintro
  rw [View.read_writes_full, View.readAt_full, View.readAt_full, View.readAt_full, harg3.read_unread, harg4.read_unread, harg7.read_unread]

set_option maxHeartbeats 1000000 in
/-- At the last point of a run: the last product is added, then the scaled block is written. -/
theorem run1C (hc0 : ¬cond1_0 i) (hc1 : cond1_1 i) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay3 x2 (k1_pay2 xs x0 x1)) ∗ owns (c : Thread nD τ) arg7 fullShare (k1_pay2 xs x0 x1)) -∗ K ⟨⟩))
      ⊢ wp frame (wpE (defs₀ (F := F)) Variants.none c none) E (cc1_ttq_dx i arg3 harg3 arg4 harg4 arg5 harg5 arg6 harg6 arg7 harg7) K := by
  simp only [cc1_ttq_dx_eq_skeleton]; unfold cc1_ttq_dx_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4; obtain rfl := harg5.eq_unread hf5; obtain rfl := harg7.eq_unread hf7
  sl_exec (disch := first | sl_exact hc0 | sl_exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_full]; unfold run1C.sl.v20; try unfold run1C.sl.H7_1
    rw [View.readAt_full, View.readAt_full, View.readAt_full, View.readAt_full, View.readCov_full, harg3.read_unread, harg4.read_unread, harg5.read_unread, harg7.read_unread]
  iexists _; isplitr
  swap; · iexact H7
  ipureintro
  try unfold run1C.sl.H7_1
  rw [View.read_writes_full, View.readAt_full, View.readAt_full, View.readAt_full, harg3.read_unread, harg4.read_unread, harg7.read_unread]

end Runs

end Cert.KernelIdeal.Own

end
-- ==== Proof.K.Dat1.lean ====
module

public import proofs.«01_k».proof.Proof.K.Run1

/-! The second call's proof data over any contents of its arrays at entry: what every window's buffer and the scratch
    accumulator hold after each grid point, and that the body takes them from one point to the next. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

theorem hcond1_0 : ∀ t : Fin cfg1.N, cond1_0 (grid1.coords t) ↔ t.val % 9 = 0 :=
  (fun t => by
    have ht : t.val < 756 := Nat.lt_of_lt_of_eq t.isLt N_1
    have e0 : (grid1.coords t 0).val = t.val / 63 % 12 := Pipeline.Grid.coords_val t 0 (by decide) rfl
    have e1 : (grid1.coords t 1).val = t.val / 9 % 7 := Pipeline.Grid.coords_val t 1 (by decide) rfl
    have e2 : (grid1.coords t 2).val = t.val / 1 % 9 := Pipeline.Grid.coords_val t 2 (by decide) rfl
    simp only [cond1_0, e0, e1, e2]
    word_cmp
   : ∀ t : Fin grid1.N, cond1_0 (grid1.coords t) ↔ t.val % 9 = 0)

theorem hcond1_1 : ∀ t : Fin cfg1.N, cond1_1 (grid1.coords t) ↔ t.val % 9 = 8 :=
  (fun t => by
    have ht : t.val < 756 := Nat.lt_of_lt_of_eq t.isLt N_1
    have e0 : (grid1.coords t 0).val = t.val / 63 % 12 := Pipeline.Grid.coords_val t 0 (by decide) rfl
    have e1 : (grid1.coords t 1).val = t.val / 9 % 7 := Pipeline.Grid.coords_val t 1 (by decide) rfl
    have e2 : (grid1.coords t 2).val = t.val / 1 % 9 := Pipeline.Grid.coords_val t 2 (by decide) rfl
    simp only [cond1_1, k1_cond2, e0, e1, e2]
    word_cmp
   : ∀ t : Fin grid1.N, cond1_1 (grid1.coords t) ↔ t.val % 9 = 8)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬t.val % 9 = 8 → cfg1.idle 3 (grid1.coords t) = true := by decide +kernel
theorem noFlush1_3 : ∀ t : Fin cfg1.N, ¬t.val % 9 = 8 → (cfg1.win 3).flush t = false :=
  fun t h => Bool.eq_false_iff.mpr fun hf => h ((flush1_3 t).mp hf)
theorem liveAt1_3 : ∀ t : Fin cfg1.N, t.val % 9 = 8 → cfg1.idle 3 (grid1.coords t) = false := by decide +kernel

abbrev ms1_0 (t : Fin cfg1.N) : Memref sig .tc .vmem S1024x2048 .fp8e5m2 := win1_0.stage (cfg1.slots t 0)
abbrev ms1_1 (t : Fin cfg1.N) : Memref sig .tc .vmem S1024x2048 .bf16 := win1_1.stage (cfg1.slots t 1)
abbrev ms1_2 (t : Fin cfg1.N) : Memref sig .tc .vmem S1024x128 .f32 := win1_2.stage (cfg1.slots t 2)
abbrev ms1_3 (t : Fin cfg1.N) : Memref sig .tc .vmem S1024x1024 .bf16 := win1_3.stage (cfg1.slots t 3)
/-- The scratch accumulator. -/
abbrev scM1 : Memref sig .tc .vmem S1024x1024 .f32 := Memref.whole cc1_scratch0

/-- The scoped buffers beside the staging buffers and the accumulator. -/
def rest1 (c : Dev nD) : sProp 𝕄 := Pipeline.scopedRestBut (Ix := Unit) (Name := ℕ) (U := UR sig nD τ) (Lvl := ℕ) (Val := Elt F) spec1 c [cc1_scratch0]

/-- The invariant with the accumulator's contents open. -/
theorem PhiA1_eq (c : Dev nD) :
    (Pipeline.ΦA spec1 c : sProp 𝕄) = iprop(iprop((∃ d, owns (c : Thread nD τ) scM1 fullShare d) ∗ rest1 (F := F) c) ∗ (∃ r, prngReg c r)) := by
  unfold Pipeline.ΦA rest1
  rw [Pipeline.scopedRest_split_of_list spec1 c [cc1_scratch0] (by decide) (by decide), bigSepL_singleton]
  simp only [scM1, owns_whole]; try rfl

/-- The accumulator after position `n`: the run of products since the inner coordinate was last zero. -/
def xAcc (c : Dev nD) : (n : ℕ) → n < cfg1.N → Vec F S1024x1024 .f32
  | 0, hn => k1_pay2 k1_pay1 (blk1 V c 0 ⟨0, hn⟩) (blk1 V c 1 ⟨0, hn⟩)
  | n + 1, hn => k1_pay2 (if (n + 1) % 9 = 0 then k1_pay1 else xAcc c n (Nat.lt_of_succ_lt hn)) (blk1 V c 0 ⟨n + 1, hn⟩) (blk1 V c 1 ⟨n + 1, hn⟩)

theorem xAcc_start (c : Dev nD) (t : Fin cfg1.N) (h : t.val % 9 = 0) :
    xAcc V c t.val t.isLt = k1_pay2 k1_pay1 (blk1 V c 0 t) (blk1 V c 1 t) := by
  obtain ⟨n, hn⟩ := t
  cases n with
  | zero => rfl
  | succ n => show k1_pay2 (if (n + 1) % 9 = 0 then k1_pay1 else _) _ _ = _; rw [if_pos h]

theorem xAcc_next (c : Dev nD) (t : Fin cfg1.N) (h : ¬t.val % 9 = 0) :
    xAcc V c t.val t.isLt = k1_pay2 (xAcc V c (t.val - 1) (Nat.lt_of_le_of_lt (Nat.sub_le _ _) t.isLt)) (blk1 V c 0 t) (blk1 V c 1 t) := by
  obtain ⟨n, hn⟩ := t
  cases n with
  | zero => exact absurd (Nat.zero_mod _) h
  | succ n => show k1_pay2 (if (n + 1) % 9 = 0 then k1_pay1 else _) _ _ = _; rw [if_neg h]; rfl

/-- The invariant before position `n`: nothing known before the first point, afterwards the accumulator's contents. -/
def PhiS1 (c : Dev nD) : (n : ℕ) → n ≤ cfg1.N → sProp 𝕄
  | 0, _ => Pipeline.ΦA spec1 c
  | n + 1, hn => iprop(iprop(owns (c : Thread nD τ) scM1 fullShare (xAcc V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (xAcc V c n hn) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (xAcc V c (n - 1) (by omega)) ∗ rest1 (F := F) c) ∗ (∃ r, prngReg c r)) := by
  cases n with
  | zero => exact absurd rfl hz
  | succ n => rfl
/-- At every position the invariant gives the plain one back. -/
theorem PhiS1_weak (c : Dev nD) (n : ℕ) (h : n ≤ cfg1.N) : PhiS1 V c n h ⊢ Pipeline.ΦA spec1 c := by
  cases n with
  | zero => exact .rfl
  | succ n =>
    rw [PhiS1_succ, PhiA1_eq]
    iintro ⟨⟨HS, HR⟩, Hg⟩
    isplitl [HS HR]
    · isplitl [HS]
      · iexists _; iexact HS
      iexact HR
    iexact Hg

/-- The second call's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay3 (blk1 V c 2 t) (xAcc V c t.val t.isLt)
  Φ t := PhiS1 V c t.val (Nat.le_of_lt_succ t.isLt)
  q _ := fullShare
  owed _ := 0

theorem A1_eq (c : Dev nD) (w : Fin cfg1.W) : (dat1 V c).A w = V c (Pipeline.arrRef spec1 w) := by dsimp only [dat1]
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = k1_pay3 (blk1 V c 2 t) (xAcc V c t.val t.isLt) := by dsimp only [dat1]
theorem before1_0 (c : Dev nD) (t : Fin cfg1.N) (d) : (dat1 V c).before 0 t d = blk1 V c 0 t :=
  before1_0_of V (dat1 V c) (A1_eq V c 0) (after1_0 V c) t d
theorem before1_1 (c : Dev nD) (t : Fin cfg1.N) (d) : (dat1 V c).before 1 t d = blk1 V c 1 t :=
  before1_1_of V (dat1 V c) (A1_eq V c 1) (after1_1 V c) t d
theorem before1_2 (c : Dev nD) (t : Fin cfg1.N) (d) : (dat1 V c).before 2 t d = blk1 V c 2 t :=
  before1_2_of V (dat1 V c) (A1_eq V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare ((dat1 V c).after 0 t) := by
  unfold Dat.leavesExact; rw [liveAt1_0 t]
theorem leaves1_1 (c : Dev nD) (t : Fin cfg1.N) : (dat1 V c).leavesExact 1 t = owns (c : Thread nD τ) (ms1_1 t) fullShare ((dat1 V c).after 1 t) := by
  unfold Dat.leavesExact; rw [liveAt1_1 t]
theorem leaves1_2 (c : Dev nD) (t : Fin cfg1.N) : (dat1 V c).leavesExact 2 t = owns (c : Thread nD τ) (ms1_2 t) fullShare ((dat1 V c).after 2 t) := by
  unfold Dat.leavesExact; rw [liveAt1_2 t]
theorem leaves1_3 (c : Dev nD) (t : Fin cfg1.N) (h : t.val % 9 = 8) : (dat1 V c).leavesExact 3 t = owns (c : Thread nD τ) (ms1_3 t) fullShare ((dat1 V c).after 3 t) := by
  unfold Dat.leavesExact; rw [liveAt1_3 t h]

set_option maxHeartbeats 4800000 in
/-- The body's run at point `t`, from the buffers as the point finds them to the buffers as the next point expects them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, after1_0, after1_1, after1_2]
  have hN : t.val < 756 := lt_of_lt_of_eq t.isLt (show cfg1.N = 756 from N_1)
  by_cases h0 : t.val % 9 = 0
  · have h1 : ¬t.val % 9 = 8 := by omega
    rw [Dat.leavesExact_idle (dat1 V c) 3 t (idleAt1_3 t h1) (noFlush1_3 t h1)]
    by_cases hz : t.val = 0
    · rw [PhiS1_castSucc V c t, PhiS1_zero V c _ _ hz, PhiA1_eq, xAcc_start V c t h0]
      iintro ⟨⟨⟨HS, HR⟩, Hg⟩, Ho, ⟨%d0, H0⟩, ⟨%d1, H1⟩, ⟨%d2, H2⟩, ⟨%d3, H3⟩⟩
      iapply (run1A c (grid1.coords t) _ _ _ _ _ _ _ _ _ _ (blk1 V c 0 t) (blk1 V c 1 t) ((hcond1_0 t).mpr h0) (fun h => h1 ((hcond1_1 t).mp h)) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz, xAcc_start V c t h0]
      iintro ⟨⟨⟨HS, HR⟩, Hg⟩, Ho, ⟨%d0, H0⟩, ⟨%d1, H1⟩, ⟨%d2, H2⟩, ⟨%d3, H3⟩⟩
      iapply (run1A c (grid1.coords t) _ _ _ _ _ _ _ _ _ _ (blk1 V c 0 t) (blk1 V c 1 t) ((hcond1_0 t).mpr h0) (fun h => h1 ((hcond1_1 t).mp h)) Set.univ _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := by omega
    rw [PhiS1_castSucc V c t, PhiS1_pos V c _ _ hz, xAcc_next V c t h0]
    by_cases h1 : t.val % 9 = 8
    · rw [leaves1_3 V c t h1, after1_3, xAcc_next V c t h0]
      iintro ⟨⟨⟨HS, HR⟩, Hg⟩, Ho, ⟨%d0, H0⟩, ⟨%d1, H1⟩, ⟨%d2, H2⟩, ⟨%d3, H3⟩⟩
      iapply (run1C c (grid1.coords t) _ _ _ _ _ _ _ _ _ _ (blk1 V c 0 t) (blk1 V c 1 t) (blk1 V c 2 t) _ (fun h => h0 ((hcond1_0 t).mp h)) ((hcond1_1 t).mpr h1) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨⟨HS, HR⟩, Hg⟩, Ho, ⟨%d0, H0⟩, ⟨%d1, H1⟩, ⟨%d2, H2⟩, ⟨%d3, H3⟩⟩
      iapply (run1B c (grid1.coords t) _ _ _ _ _ _ _ _ _ _ (blk1 V c 0 t) (blk1 V c 1 t) _ (fun h => h0 ((hcond1_0 t).mp h)) (fun h => h1 ((hcond1_1 t).mp h)) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem defs₀_row1 (t : Fin cfg1.N) :
    defs₀ (F := F) .tc cfg1.body (cfg1.bodyArgs t (cfg1.slots t)) = bodyAt1 t := by
  unfold defs₀; rw [Defs.onTc_tc]
/-- The library's body obligation, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end Cert.KernelIdeal.Own

end
-- ==== Proof.K.Regions.lean ====
module

public import proofs.«01_k».proof.Proof.K.Dat0
public import proofs.«01_k».proof.Proof.K.Dat1
public import proofs.«01_k».proof.Proof.Gen.KernelIdeal.Regions
public import Idealize.ShloMosaic.Lib.Pipeline.RegionArrays

/-! The whole program from launch to end: the two calls as segments between the host stretches, what the buffers hold at the
    end, and the run's postcondition. -/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The first call's arrays at entry. -/
abbrev Ve0 (c : Dev nD) (b : Ref sig .tc) : Buf (Elt F) ((c : Thread nD τ).loc b) := V1 m c (Proc.devRef .tc b)

/-- What the first call leaves: its three outputs. -/
def outsA : Outs (F := F) := fun _ r c =>
  if h : r = main_v9_0 then h ▸ (dat0 (Ve0 m) c).arrAt 5 cfg0.N
  else if h : r = main_v9_1 then h ▸ (dat0 (Ve0 m) c).arrAt 6 cfg0.N
  else if h : r = main_v9_2 then h ▸ (dat0 (Ve0 m) c).arrAt 7 cfg0.N
  else V1 m c (Proc.devRef .tc r)

theorem outsA_0 (J : ℕ) (c : Dev nD) : outsA m J main_v9_0 c = (dat0 (Ve0 m) c).arrAt 5 cfg0.N := by
  unfold outsA; rw [dif_pos rfl]
theorem outsA_1 (J : ℕ) (c : Dev nD) : outsA m J main_v9_1 c = (dat0 (Ve0 m) c).arrAt 6 cfg0.N := by
  unfold outsA; rw [dif_neg (by decide), dif_pos rfl]
theorem outsA_2 (J : ℕ) (c : Dev nD) : outsA m J main_v9_2 c = (dat0 (Ve0 m) c).arrAt 7 cfg0.N := by
  unfold outsA; rw [dif_neg (by decide), dif_neg (by decide), dif_pos rfl]

/-- The second call's arrays at entry. -/
abbrev Ve1 (c : Dev nD) (b : Ref sig .tc) : Buf (Elt F) ((c : Thread nD τ).loc b) := V2 m (outsA m) c (Proc.devRef .tc b)

/-- What the two calls leave. -/
def outs : Outs (F := F) := fun J r c =>
  if h : r = main_v10 then h ▸ (dat1 (Ve1 m) c).arrAt 3 cfg1.N else outsA m J r c

theorem outs_0 (J : ℕ) (c : Dev nD) : outs m J main_v9_0 c = (dat0 (Ve0 m) c).arrAt 5 cfg0.N := by
  unfold outs; rw [dif_neg (by decide), outsA_0]
theorem outs_1 (J : ℕ) (c : Dev nD) : outs m J main_v9_1 c = (dat0 (Ve0 m) c).arrAt 6 cfg0.N := by
  unfold outs; rw [dif_neg (by decide), outsA_1]
theorem outs_2 (J : ℕ) (c : Dev nD) : outs m J main_v9_2 c = (dat0 (Ve0 m) c).arrAt 7 cfg0.N := by
  unfold outs; rw [dif_neg (by decide), outsA_2]
theorem outs_3 (J : ℕ) (c : Dev nD) : outs m J main_v10 c = (dat1 (Ve1 m) c).arrAt 3 cfg1.N := by
  unfold outs; rw [dif_pos rfl]

theorem V2_outs (c : Dev nD) : V2 m (outs m) c = V2 m (outsA m) c := by
  simp only [V2, outs_0, outs_1, outs_2, outsA_0, outsA_1, outsA_2]

/-- The two calls' proof data. -/
def PD : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
  | ⟨_ + 2, h⟩ => absurd h (Nat.not_lt.2 (Nat.le_add_left _ _))

/-- A level at every cell of a TensorCore. -/
def L₀ : GSem nD τ sig → Finset Unit := fun g => if g.1.2 = .tc then {()} else ∅
/-- All levels zero. -/
def lv₀ : GSem nD τ sig → Unit → ℕ := fun _ _ => 0
/-- Nothing is owed. -/
abbrev D₀ : Dev nD → CellTallies nD τ sig Unit := fun _ => 0

theorem hcut (p : Fin 2) : Pipeline.LevelCut (pcfgs (F := F)) adm () L₀ lv₀ p D₀ (fun _ => 0) where
  hι c w s := by unfold L₀; rw [if_pos rfl]; exact Finset.mem_singleton_self _
  hιb c w s := le_rfl
  hD c g i h := absurd h (lt_irrefl _)

/-- What rides beside the buffers: the generator register, and the core owing nothing. -/
def Erest (c : Dev nD) : sProp 𝕄 := iprop((∃ r, prngReg c r) ∗ ∃ W, owes (c : Thread nD τ) (0 : CellTallies nD τ sig Unit) W)

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig := Pipeline.arrRefs_sub_ucRefs spec0 (by decide)
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig := Pipeline.arrRefs_sub_ucRefs spec1 (by decide)

theorem V2_at_0 (c : Dev nD) : V2 m (outs m) c (Proc.devRef .tc main_v9_0) = (dat0 (Ve0 m) c).arrAt 5 cfg0.N := by
  simp only [V2, Function.update_of_ne (StableHlo.devRef_ne_of_ne (by decide : (main_v9_0 : Ref sig .tc) ≠ main_v9_2)),
    Function.update_of_ne (StableHlo.devRef_ne_of_ne (by decide : (main_v9_0 : Ref sig .tc) ≠ main_v9_1)), Function.update_self]
  exact outs_0 m 2 c
theorem V2_at_1 (c : Dev nD) : V2 m (outs m) c (Proc.devRef .tc main_v9_1) = (dat0 (Ve0 m) c).arrAt 6 cfg0.N := by
  simp only [V2, Function.update_of_ne (StableHlo.devRef_ne_of_ne (by decide : (main_v9_1 : Ref sig .tc) ≠ main_v9_2)), Function.update_self]
  exact outs_1 m 2 c
theorem V2_at_2 (c : Dev nD) : V2 m (outs m) c (Proc.devRef .tc main_v9_2) = (dat0 (Ve0 m) c).arrAt 7 cfg0.N := by
  simp only [V2, Function.update_self]
  exact outs_2 m 2 c
theorem V3_at (c : Dev nD) : V3 m (outs m) c (Proc.devRef .tc main_v10) = (dat1 (Ve1 m) c).arrAt 3 cfg1.N := by
  simp only [V3, Function.update_self]
  exact outs_3 m 3 c

theorem rest0_eq (c : Dev nD) : ∀ b ∈ Pipeline.ucRefs τ sig \ Pipeline.arrRefs (τ := τ) spec0, V2 m (outs m) c b = V1 m c b := fun b hb => by
  have hn := (Finset.mem_sdiff.mp hb).2
  have h0 : b ≠ Proc.devRef .tc main_v9_0 := by rintro rfl; exact hn (arr0_mem 5)
  have h1 : b ≠ Proc.devRef .tc main_v9_1 := by rintro rfl; exact hn (arr0_mem 6)
  have h2 : b ≠ Proc.devRef .tc main_v9_2 := by rintro rfl; exact hn (arr0_mem 7)
  simp only [V2, Function.update_of_ne h0, Function.update_of_ne h1, Function.update_of_ne h2]

theorem rest1_eq (c : Dev nD) : ∀ b ∈ Pipeline.ucRefs τ sig \ Pipeline.arrRefs (τ := τ) spec1, V3 m (outs m) c b = V2 m (outs m) c b := fun b hb => by
  have hn := (Finset.mem_sdiff.mp hb).2
  have h0 : b ≠ Proc.devRef .tc main_v10 := by rintro rfl; exact hn (arr1_mem 3)
  simp only [V3, Function.update_of_ne h0]

set_option backward.isDefEq.respectTransparency.types false in
/-- Call 0's arrays at its exit, in the thread state after it. -/
theorem exit0 (c : Dev nD) : ∀ w : Fin cfg0.W, (dat0 (Ve0 m) c).arrAt w cfg0.N = V2 m (outs m) c (Proc.devRef .tc (Pipeline.arrRef spec0 w)) := fun
    | 0 => ((dat0 (Ve0 m) c).arrAt_in 0 rfl _).trans ((A0_eq (Ve0 m) c 0).trans (V2_of m (outs m) c (Pipeline.arrRef spec0 0) (by decide)).symm)
    | 1 => ((dat0 (Ve0 m) c).arrAt_in 1 rfl _).trans ((A0_eq (Ve0 m) c 1).trans (V2_of m (outs m) c (Pipeline.arrRef spec0 1) (by decide)).symm)
    | 2 => ((dat0 (Ve0 m) c).arrAt_in 2 rfl _).trans ((A0_eq (Ve0 m) c 2).trans (V2_of m (outs m) c (Pipeline.arrRef spec0 2) (by decide)).symm)
    | 3 => ((dat0 (Ve0 m) c).arrAt_in 3 rfl _).trans ((A0_eq (Ve0 m) c 3).trans (V2_of m (outs m) c (Pipeline.arrRef spec0 3) (by decide)).symm)
    | 4 => ((dat0 (Ve0 m) c).arrAt_in 4 rfl _).trans ((A0_eq (Ve0 m) c 4).trans (V2_of m (outs m) c (Pipeline.arrRef spec0 4) (by decide)).symm)
    | 5 => (V2_at_0 m c).symm
    | 6 => (V2_at_1 m c).symm
    | 7 => (V2_at_2 m c).symm
    | ⟨_ + 8, h⟩ => absurd h (Nat.not_lt.2 (Nat.le_add_left _ _))

set_option backward.isDefEq.respectTransparency.types false in
/-- Call 0 as a segment between its two thread states. -/
def R0 : RegionSeg (pcfgs (F := F)) adm (PD m) () defs₀ Variants.none L₀ lv₀ 0 :=
  Pipeline.RegionSeg.ofHeld (pcfgs (F := F)) adm (PD m) () defs₀ Variants.none L₀ lv₀ 0 D₀
    (fun c => iprop(∃ r, prngReg c r)) (fun c => iprop(∃ r, prngReg c r)) launch0.toP rfl
    (fun c => (body_obligation0 (Ve0 m) c).loose) (fun _ _ => rfl) (fun _ => rfl)
    (fun c => (dat0 (Ve0 m) c).share_full fun _ => rfl) (fun c => .rfl) (fun c => .rfl) (fun _ => 0) (hcut 0)
    (fun c => iprop(StableHlo.held (c : Thread nD τ) (Pipeline.ucRefs τ sig \ Pipeline.arrRefs (τ := τ) spec0) (V1 m c)))
    (fun c => V1 m c) (fun c => V2 m (outs m) c) (fun _ _ => rfl) (exit0 m)

set_option backward.isDefEq.respectTransparency.types false in
theorem R0_pre (c : Dev nD) : iprop(StableHlo.held (c : Thread nD τ) (Pipeline.ucRefs τ sig) (V1 m c) ∗ Erest (F := F) c) ⊢ (R0 m).pre c := by
  show _ ⊢ iprop(StableHlo.held (c : Thread nD τ) (Pipeline.arrRefs (τ := τ) spec0) (V1 m c) ∗ (∃ r, prngReg c r)
    ∗ StableHlo.held (c : Thread nD τ) (Pipeline.ucRefs τ sig \ Pipeline.arrRefs (τ := τ) spec0) (V1 m c) ∗ ∃ W, owes (c : Thread nD τ) (0 : CellTallies nD τ sig Unit) W)
  rw [StableHlo.held_sub_split (c : Thread nD τ) arr0_S (V1 m c)]
  unfold Erest
  iintro ⟨⟨Ha, Hr⟩, Hp, HO⟩
  isplitl [Ha]; · iexact Ha
  isplitl [Hp]; · iexact Hp
  isplitl [Hr]; · iexact Hr
  iexact HO

set_option backward.isDefEq.respectTransparency.types false in
theorem R0_post (c : Dev nD) : (R0 m).post c ⊢ iprop(StableHlo.held (c : Thread nD τ) (Pipeline.ucRefs τ sig) (V2 m (outs m) c) ∗ Erest (F := F) c) := by
  show iprop(StableHlo.held (c : Thread nD τ) (Pipeline.arrRefs (τ := τ) spec0) (V2 m (outs m) c) ∗ (∃ r, prngReg c r)
    ∗ StableHlo.held (c : Thread nD τ) (Pipeline.ucRefs τ sig \ Pipeline.arrRefs (τ := τ) spec0) (V1 m c) ∗ ∃ W, owes (c : Thread nD τ) (0 : CellTallies nD τ sig Unit) W) ⊢ _
  rw [StableHlo.held_sub_split (c : Thread nD τ) arr0_S (V2 m (outs m) c),
    StableHlo.held_congr (c : Thread nD τ) (S := Pipeline.ucRefs τ sig \ Pipeline.arrRefs (τ := τ) spec0) (rest0_eq m c)]
  unfold Erest
  iintro ⟨Ha, Hp, Hr, HO⟩
  isplitl [Ha Hr]
  · isplitl [Ha]; · iexact Ha
    iexact Hr
  isplitl [Hp]; · iexact Hp
  iexact HO

set_option backward.isDefEq.respectTransparency.types false in
/-- Call 1's arrays at its exit, in the thread state after it. -/
theorem exit1 (c : Dev nD) : ∀ w : Fin cfg1.W, (dat1 (Ve1 m) c).arrAt w cfg1.N = V3 m (outs m) c (Proc.devRef .tc (Pipeline.arrRef spec1 w)) := fun
    | 0 => ((dat1 (Ve1 m) c).arrAt_in 0 rfl _).trans ((A1_eq (Ve1 m) c 0).trans ((congrFun (V2_outs m c) _).symm.trans (V3_of m (outs m) c (Pipeline.arrRef spec1 0) (by decide)).symm))
    | 1 => ((dat1 (Ve1 m) c).arrAt_in 1 rfl _).trans ((A1_eq (Ve1 m) c 1).trans ((congrFun (V2_outs m c) _).symm.trans (V3_of m (outs m) c (Pipeline.arrRef spec1 1) (by decide)).symm))
    | 2 => ((dat1 (Ve1 m) c).arrAt_in 2 rfl _).trans ((A1_eq (Ve1 m) c 2).trans ((congrFun (V2_outs m c) _).symm.trans (V3_of m (outs m) c (Pipeline.arrRef spec1 2) (by decide)).symm))
    | 3 => (V3_at m c).symm
    | ⟨_ + 4, h⟩ => absurd h (Nat.not_lt.2 (Nat.le_add_left _ _))

set_option backward.isDefEq.respectTransparency.types false in
/-- Call 1 as a segment between its two thread states. -/
def R1 : RegionSeg (pcfgs (F := F)) adm (PD m) () defs₀ Variants.none L₀ lv₀ 1 :=
  Pipeline.RegionSeg.ofHeld (pcfgs (F := F)) adm (PD m) () defs₀ Variants.none L₀ lv₀ 1 D₀
    (fun c => iprop(∃ r, prngReg c r)) (fun c => iprop(∃ r, prngReg c r)) launch1.toP rfl
    (fun c => (body_obligation1 (Ve1 m) c).loose) (fun _ _ => rfl) (fun _ => rfl)
    (fun c => (dat1 (Ve1 m) c).share_full fun _ => rfl) (fun c => .rfl) (fun c => ((PhiS1_weak (Ve1 m) c (Fin.last cfg1.N).val le_rfl).trans .rfl)) (fun _ => 0) (hcut 1)
    (fun c => iprop(StableHlo.held (c : Thread nD τ) (Pipeline.ucRefs τ sig \ Pipeline.arrRefs (τ := τ) spec1) (V2 m (outs m) c)))
    (fun c => V2 m (outs m) c) (fun c => V3 m (outs m) c) (fun c w => (A1_eq (Ve1 m) c w).trans (congrFun (V2_outs m c) _).symm) (exit1 m)

set_option backward.isDefEq.respectTransparency.types false in
theorem R1_pre (c : Dev nD) : iprop(StableHlo.held (c : Thread nD τ) (Pipeline.ucRefs τ sig) (V2 m (outs m) c) ∗ Erest (F := F) c) ⊢ (R1 m).pre c := by
  show _ ⊢ iprop(StableHlo.held (c : Thread nD τ) (Pipeline.arrRefs (τ := τ) spec1) (V2 m (outs m) c) ∗ (∃ r, prngReg c r)
    ∗ StableHlo.held (c : Thread nD τ) (Pipeline.ucRefs τ sig \ Pipeline.arrRefs (τ := τ) spec1) (V2 m (outs m) c) ∗ ∃ W, owes (c : Thread nD τ) (0 : CellTallies nD τ sig Unit) W)
  rw [StableHlo.held_sub_split (c : Thread nD τ) arr1_S (V2 m (outs m) c)]
  unfold Erest
  iintro ⟨⟨Ha, Hr⟩, Hp, HO⟩
  isplitl [Ha]; · iexact Ha
  isplitl [Hp]; · iexact Hp
  isplitl [Hr]; · iexact Hr
  iexact HO

set_option backward.isDefEq.respectTransparency.types false in
theorem R1_post (c : Dev nD) : (R1 m).post c ⊢ iprop(StableHlo.held (c : Thread nD τ) (Pipeline.ucRefs τ sig) (V3 m (outs m) c) ∗ Erest (F := F) c) := by
  show iprop(StableHlo.held (c : Thread nD τ) (Pipeline.arrRefs (τ := τ) spec1) (V3 m (outs m) c) ∗ (∃ r, prngReg c r)
    ∗ StableHlo.held (c : Thread nD τ) (Pipeline.ucRefs τ sig \ Pipeline.arrRefs (τ := τ) spec1) (V2 m (outs m) c) ∗ ∃ W, owes (c : Thread nD τ) (0 : CellTallies nD τ sig Unit) W) ⊢ _
  rw [StableHlo.held_sub_split (c : Thread nD τ) arr1_S (V3 m (outs m) c),
    StableHlo.held_congr (c : Thread nD τ) (S := Pipeline.ucRefs τ sig \ Pipeline.arrRefs (τ := τ) spec1) (rest1_eq m c)]
  unfold Erest
  iintro ⟨Ha, Hp, Hr, HO⟩
  isplitl [Ha Hr]
  · isplitl [Ha]; · iexact Ha
    iexact Hr
  isplitl [Hp]; · iexact Hp
  iexact HO

/-- What a final state says of core `c`: the arguments as launched, and the four results as the last thread state has them. -/
def Fin0 (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v11) = V4 m (outs m) c (Proc.devRef .tc main_v11) ∧ s.mem ((c.tc : Thread nD τ).loc main_v9_0) = V4 m (outs m) c (Proc.devRef .tc main_v9_0) ∧ s.mem ((c.tc : Thread nD τ).loc main_v14) = V4 m (outs m) c (Proc.devRef .tc main_v14) ∧ s.mem ((c.tc : Thread nD τ).loc main_v18) = V4 m (outs m) c (Proc.devRef .tc main_v18)

set_option backward.isDefEq.respectTransparency.types false in
/-- THE RUN: every weakly fair execution terminates in such a state, with every semaphore counter at zero. -/
theorem run_main (ρ : Dev nD → PrngReg) :
    θ_run defs (onTc (τ := τ) (main (F := F))) ⟨m, fun _ => 0, ρ⟩ (fun r => (∀ c : Dev nD, Fin0 m c r.2) ∧ r.2.sem = fun _ => 0) := by
  refine Pipeline.θ_run_regions_kit_dev_sems (pcfgs (F := F)) adm (PD m) () cellOf_inj emb₁ defs₀ Variants.none L₀ lv₀ m ρ main
    (segs m (outs m) Variants.none L₀ lv₀ (fun _ => Erest) () (PD m) (R0 m) (R1 m))
    (fun c Q => by
      rewrite [main_chain c, Seg.run_eq_chain,
        show (segs m (outs m) Variants.none L₀ lv₀ (fun _ => Erest) () (PD m) (R0 m) (R1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0)
    (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Erest c))
    (Tₙ := fun c => StableHlo.held (c : Thread nD τ) (Pipeline.ucRefs τ sig) (V4 m (outs m) c))
    (hch := fun c => ⟨.rfl, R0_pre m c, (R0_post m c).trans (R1_pre m c), R1_post m c, sep_mono .rfl (by
      unfold Erest; iintro ⟨-, HO⟩; iexact HO)⟩)
    (hinit := by
      refine Pipeline.initEach L₀ lv₀ fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold Erest
      iintro ⟨⟨Hh, -, HO, -, Hp, -⟩, -⟩
      imodintro
      isplitl [Hh]; · iexact Hh
      isplitl [Hp]
      · iexists _; iexact Hp
      iexists _; iexact HO)
    (QY := Fin0 m)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        h (Proc.devRef .tc main_v11) (Finset.mem_filter.mpr ⟨StableHlo.devRef_mem_tcRefs main_v11, by decide⟩),
        h (Proc.devRef .tc main_v9_0) (Finset.mem_filter.mpr ⟨StableHlo.devRef_mem_tcRefs main_v9_0, by decide⟩),
        h (Proc.devRef .tc main_v14) (Finset.mem_filter.mpr ⟨StableHlo.devRef_mem_tcRefs main_v14, by decide⟩),
        h (Proc.devRef .tc main_v18) (Finset.mem_filter.mpr ⟨StableHlo.devRef_mem_tcRefs main_v18, by decide⟩)⟩
  · iexact HSI

end Cert.KernelIdeal.Own

end
-- ==== Proof.K.Pay.lean ====
module

public import proofs.«01_k».proof.Proof.K.Regions
public import Idealize.ShloMosaic.Lib.Pipeline.ValueKit
public import Idealize.ShloMosaic.Lib.Pointwise

@[expose] public section

/-! # The two calls' payloads over the extended reals, element by element -/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero of the accumulator. -/
theorem k0_pay1_apply (a b : Fin 1024) : k0_pay1 (F := Ideal) (ix2 a b) = 0 := by
  pointwise [k0_pay1]

/-- The zero of the sums. -/
theorem k0_pay3_apply (p : Fin 2) (a : Fin 8) (b : Fin 1024) : k0_pay3 (F := Ideal) (ix3 p a b) = 0 := by
  pointwise [k0_pay3]

/-- One step of the first accumulation, the scale the same in every column of its block. -/
theorem k0_pay2_apply (sc : Vec Ideal S2048x128 .bf16) (dy : Vec Ideal S2048x1024 .fp8e5m2) (acc : Vec Ideal S1024x1024 .f32)
    (x : Vec Ideal S2048x1024 .bf16) (s : Fin 2048 → EReal) (hsc : ∀ r l, sc (ix2 r l) = s r) (a b : Fin 1024) :
    k0_pay2 (F := Ideal) sc dy acc x (ix2 a b) = (acc (ix2 a b) : EReal) + ∑ k : Fin 2048, (x (ix2 k a) : EReal) * ((dy (ix2 k b) : EReal) * s k) := by
  pointwise [k0_pay2]
  simp only [hsc, dite_eq_ite, ite_self]

/-- One step of the sums, first plane: the column-group sums of the gradient where the weight lies above the threshold. -/
theorem k0_pay9_apply (v27 : Elt Ideal .f32) (v30 : Vec Ideal S1024x1024 .f32) (v32 : Vec Ideal S1024x1024 .f32) (v44 : Vec Ideal S1x8x1024 .f32) (a : Fin 8) (b : Fin 1024) :
    k0_pay9 (F := Ideal) v27 v30 v32 v44 (ix3 0 a b) = (v44 (ix3 0 a b) : EReal) + ∑ k : Fin 128,
      if (v27 : EReal) < (v32 (ix2 ⟨k.val * 8 + a.val, by omega⟩ b) : EReal) then (v30 (ix2 ⟨k.val * 8 + a.val, by omega⟩ b) : EReal) else 0 := by
  pointwise [k0_pay9, k0_pay7, k0_pay6]

/-- One step of the sums, second plane: where the weight lies below minus the threshold. -/
theorem k0_pay10_apply (v27 : Elt Ideal .f32) (v30 : Vec Ideal S1024x1024 .f32) (v32 : Vec Ideal S1024x1024 .f32) (v44 : Vec Ideal S1x8x1024 .f32) (a : Fin 8) (b : Fin 1024) :
    k0_pay10 (F := Ideal) v27 v30 v32 v44 (ix3 0 a b) = (v44 (ix3 0 a b) : EReal) + ∑ k : Fin 128,
      if (v32 (ix2 ⟨k.val * 8 + a.val, by omega⟩ b) : EReal) < 0 - (v27 : EReal) then (v30 (ix2 ⟨k.val * 8 + a.val, by omega⟩ b) : EReal) else 0 := by
  pointwise [k0_pay10, k0_pay8, k0_pay6]

/-- The weight gradient's block: the accumulated product times `w_p`, `w_n` or one. -/
theorem dwOut_apply (x0 : Vec Ideal S3 .f32) (g w : Vec Ideal S1024x1024 .f32) (a b : Fin 1024) :
    dwOut (F := Ideal) x0 g w (ix2 a b) = (if (x0 (ix1 0) : EReal) < w (ix2 a b) then (x0 (ix1 1) : EReal)
      else if (w (ix2 a b) : EReal) < 0 - x0 (ix1 0) then (x0 (ix1 2) : EReal) else 1) * (g (ix2 a b) : EReal) := by
  pointwise [dwOut, k0_pay4, k0_pay6, k0_pay7, k0_pay8, k0_pay11, k0_pay12]
  rfl

/-- The ternary weights' block. -/
theorem wtOut_apply (x0 : Vec Ideal S3 .f32) (w : Vec Ideal S1024x1024 .f32) (a b : Fin 1024) :
    wtOut (F := Ideal) x0 w (ix2 a b) = if (x0 (ix1 0) : EReal) < w (ix2 a b) then (x0 (ix1 1) : EReal)
      else if (w (ix2 a b) : EReal) < 0 - x0 (ix1 0) then 0 - (x0 (ix1 2) : EReal) else 0 := by
  pointwise [wtOut, k0_pay5, k0_pay6, k0_pay7, k0_pay8, k0_pay11, k0_pay12]
  rfl

/-- One step of the second accumulation. -/
theorem k1_pay2_apply (acc : Vec Ideal S1024x1024 .f32) (dy : Vec Ideal S1024x2048 .fp8e5m2) (wt : Vec Ideal S1024x2048 .bf16) (a b : Fin 1024) :
    k1_pay2 (F := Ideal) acc dy wt (ix2 a b) = (acc (ix2 a b) : EReal) + ∑ k : Fin 2048, (dy (ix2 a k) : EReal) * (wt (ix2 b k) : EReal) := by
  pointwise [k1_pay2]

/-- The zero of the second accumulator. -/
theorem k1_pay1_apply (a b : Fin 1024) : k1_pay1 (F := Ideal) (ix2 a b) = 0 := by
  pointwise [k1_pay1]

/-- The input gradient's block: the row's scale times the accumulated product. -/
theorem k1_pay3_apply (sc : Vec Ideal S1024x128 .f32) (acc : Vec Ideal S1024x1024 .f32) (s : Fin 1024 → EReal)
    (hsc : ∀ r l, sc (ix2 r l) = s r) (a b : Fin 1024) :
    k1_pay3 (F := Ideal) sc acc (ix2 a b) = s a * (acc (ix2 a b) : EReal) := by
  pointwise [k1_pay3]
  simp only [hsc, dite_eq_ite, ite_self]

end Cert.KernelIdeal.Own
-- ==== Proof.K.Arr0.lean ====
module

public import proofs.«01_k».proof.Proof.K.Pay
public import Idealize.ShloMosaic.Lib.Pipeline.ValueKit
public import Idealize.ShloMosaic.Lib.Pointwise

@[expose] public section

/-! # What the first call leaves in its three arrays, over the extended reals -/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## The windows' block indices -/

theorem idx0_0 : ∀ t : Fin cfg0.N, win0_0.index t = ![0] := (by decide +kernel : ∀ t : Fin grid0.N, _)
theorem idx0_1 : ∀ t : Fin cfg0.N, win0_1.index t = ![t.val % 6, t.val / 108 % 7] := (by decide +kernel : ∀ t : Fin grid0.N, _)
theorem idx0_2 : ∀ t : Fin cfg0.N, win0_2.index t = ![t.val % 6, t.val / 6 % 18] := (by decide +kernel : ∀ t : Fin grid0.N, _)
theorem idx0_3 : ∀ t : Fin cfg0.N, win0_3.index t = ![t.val % 6, 0] := (by decide +kernel : ∀ t : Fin grid0.N, _)
theorem idx0_4 : ∀ t : Fin cfg0.N, win0_4.index t = ![t.val / 108 % 7, t.val / 6 % 18] := (by decide +kernel : ∀ t : Fin grid0.N, _)
theorem idx0_5 : ∀ t : Fin cfg0.N, win0_5.index t = ![t.val / 108 % 7, t.val / 6 % 18] := (by decide +kernel : ∀ t : Fin grid0.N, _)
theorem idx0_6 : ∀ t : Fin cfg0.N, win0_6.index t = ![t.val / 108 % 7, t.val / 6 % 18] := (by decide +kernel : ∀ t : Fin grid0.N, _)

theorem blk0_0_apply (c : Dev nD) (t : Fin cfg0.N) (a : Fin 3) : blk0 V c 0 t (ix1 a) = V c main_v7 (ix1 a) := by
  blk_ext [blk0, idx0_0 t]
theorem blk0_1_apply (c : Dev nD) (t : Fin cfg0.N) (k : Fin 2048) (a : Fin 1024) :
    blk0 V c 1 t (ix2 k a) = V c main_v0 (ix2 ⟨t.val % 6 * 2048 + k.val, by omega⟩ ⟨t.val / 108 % 7 * 1024 + a.val, by omega⟩) := by
  blk_ext [blk0, idx0_1 t]
theorem blk0_2_apply (c : Dev nD) (t : Fin cfg0.N) (k : Fin 2048) (a : Fin 1024) :
    blk0 V c 2 t (ix2 k a) = V c main_v1 (ix2 ⟨t.val % 6 * 2048 + k.val, by omega⟩ ⟨t.val / 6 % 18 * 1024 + a.val, by omega⟩) := by
  blk_ext [blk0, idx0_2 t]
theorem blk0_3_apply (c : Dev nD) (t : Fin cfg0.N) (k : Fin 2048) (a : Fin 128) :
    blk0 V c 3 t (ix2 k a) = V c main_v8 (ix2 ⟨t.val % 6 * 2048 + k.val, by omega⟩ a) := by
  blk_ext [blk0, idx0_3 t]
theorem blk0_4_apply (c : Dev nD) (t : Fin cfg0.N) (k : Fin 1024) (a : Fin 1024) :
    blk0 V c 4 t (ix2 k a) = V c main_arg3 (ix2 ⟨t.val / 108 % 7 * 1024 + k.val, by omega⟩ ⟨t.val / 6 % 18 * 1024 + a.val, by omega⟩) := by
  blk_ext [blk0, idx0_4 t]

/-! ## The accumulated product -/

theorem idx2_lt0 (i : S1024x1024.Idx) : (i 0).val < 1024 := (i 0).isLt
theorem idx2_lt1 (i : S1024x1024.Idx) : (i 1).val < 1024 := (i 1).isLt

/-- The weight gradient before its scaling: the sum over all tokens of the input times the scaled output gradient. -/
def gradS (x : S12288x7168.Idx → EReal) (dy : S12288x18432.Idx → EReal) (s : Fin 12288 → EReal) (d : Fin 7168) (f : Fin 18432) : EReal :=
  ∑ r : Fin 12288, x (ix2 r d) * (dy (ix2 r f) * s r)

/-- What the point at position `t` adds to the accumulator. -/
def gTerm (x : S12288x7168.Idx → EReal) (dy : S12288x18432.Idx → EReal) (s : Fin 12288 → EReal) (t : ℕ) (i : S1024x1024.Idx) : EReal :=
  ∑ k : Fin 2048, x (ix2 ⟨t % 6 * 2048 + k.val, by omega⟩ ⟨t / 108 % 7 * 1024 + (i 0).val, by have := idx2_lt0 i; omega⟩)
    * (dy (ix2 ⟨t % 6 * 2048 + k.val, by omega⟩ ⟨t / 6 % 18 * 1024 + (i 1).val, by have := idx2_lt1 i; omega⟩) * s ⟨t % 6 * 2048 + k.val, by omega⟩)

theorem g_step (c : Dev nD) (s : Fin 12288 → EReal) (hs : ∀ r l, V c main_v8 (ix2 r l) = s r) (t : Fin cfg0.N) (acc : Vec Ideal S1024x1024 .f32) (i : S1024x1024.Idx) :
    k0_pay2 (F := Ideal) (blk0 V c 3 t) (blk0 V c 2 t) acc (blk0 V c 1 t) i = (acc i : EReal) + gTerm (V c main_v0) (V c main_v1) s t.val i := by
  obtain ⟨a, b, rfl⟩ : ∃ a b : Fin 1024, i = ix2 a b := ⟨i 0, i 1, eq_ix2 i⟩
  rw [k0_pay2_apply _ _ _ _ (fun k => s ⟨t.val % 6 * 2048 + k.val, by omega⟩) (fun r l => by rw [blk0_3_apply]; exact hs _ _)]
  simp only [blk0_1_apply, blk0_2_apply]
  rfl

theorem gAcc_apply (c : Dev nD) (s : Fin 12288 → EReal) (hs : ∀ r l, V c main_v8 (ix2 r l) = s r) (t : Fin cfg0.N) (ht : t.val % 6 = 5) (a b : Fin 1024) :
    (gAcc V c t.val t.isLt (ix2 a b) : EReal) = gradS (V c main_v0) (V c main_v1) s ⟨t.val / 108 % 7 * 1024 + a.val, by omega⟩ ⟨t.val / 6 % 18 * 1024 + b.val, by omega⟩ := by
  refine (Pipeline.eq_sum_fin_of_reset_step_apply_of_flush (M := EReal) (fun n h => gAcc V c n h) 6 (fun _ => 0) (fun u : Fin cfg0.N => gTerm (V c main_v0) (V c main_v1) s u.val)
    (fun t h i => ?_) (fun t h i => ?_) t ht (ix2 a b)).trans ?_
  · obtain ⟨a, b, rfl⟩ : ∃ a b : Fin 1024, i = ix2 a b := ⟨i 0, i 1, eq_ix2 i⟩
    rw [gAcc_start V c t h, g_step V c s hs, k0_pay1_apply]
  · rw [gAcc_next V c t h, g_step V c s hs]
  · rw [zero_add]
    unfold gTerm gradS
    refine Fin.sum_mul_add_congr fun u k hl => ?_
    have e1 : (6 * (t.val / 6) + u.val) % 6 = u.val := by omega
    have e2 : (6 * (t.val / 6) + u.val) / 108 % 7 = t.val / 108 % 7 := by omega
    have e3 : (6 * (t.val / 6) + u.val) / 6 % 18 = t.val / 6 % 18 := by omega
    simp only [e1, e2, e3]
    rfl

/-! ## The two gradient arrays -/

/-- The factor of the weight gradient at a weight. -/
def dwFac (x0 : S3.Idx → EReal) (w : EReal) : EReal := if x0 (ix1 0) < w then x0 (ix1 1) else if w < 0 - x0 (ix1 0) then x0 (ix1 2) else 1

/-- The ternary weight at a weight. -/
def wtFac (x0 : S3.Idx → EReal) (w : EReal) : EReal := if x0 (ix1 0) < w then x0 (ix1 1) else if w < 0 - x0 (ix1 0) then 0 - x0 (ix1 2) else 0

theorem dw_arr (c : Dev nD) (s : Fin 12288 → EReal) (hs : ∀ r l, V c main_v8 (ix2 r l) = s r) :
    (dat0 V c).arrAt 5 cfg0.N = fun i : S7168x18432.Idx => (dwFac (V c main_v7) (V c main_arg3 i) * gradS (V c main_v0) (V c main_v1) s (i 0) (i 1) : EReal) := by
  refine (dat0 V c).arrAt_eq_of_covers 5 _ (by decide +kernel) fun t hf y => ?_
  have h5 : t.val % 6 = 5 := (flush0_5 t).mp hf
  blk_simp
  rw [after0_5]
  unfold dwAt
  rw [if_pos h5]
  obtain ⟨a, b, rfl⟩ : ∃ a b : Fin 1024, y = ix2 a b := ⟨y 0, y 1, eq_ix2 y⟩
  have e : (win0_5.blk t).view.emb (ix2 a b : S1024x1024.Idx) = (ix2 ⟨t.val / 108 % 7 * 1024 + a.val, by omega⟩ ⟨t.val / 6 % 18 * 1024 + b.val, by omega⟩ : S7168x18432.Idx) := by
    blk_ext [idx0_5 t]
  refine (dwOut_apply _ _ _ a b).trans ?_
  rw [gAcc_apply V c s hs t h5, blk0_4_apply, blk0_0_apply, blk0_0_apply, blk0_0_apply]
  show _ = dwFac (V c main_v7) (V c main_arg3 ((win0_5.blk t).view.emb (ix2 a b : S1024x1024.Idx))) * gradS (V c main_v0) (V c main_v1) s ((win0_5.blk t).view.emb (ix2 a b : S1024x1024.Idx) 0) ((win0_5.blk t).view.emb (ix2 a b : S1024x1024.Idx) 1)
  rw [e]
  rfl

theorem wt_arr (c : Dev nD) :
    (dat0 V c).arrAt 6 cfg0.N = fun i : S7168x18432.Idx => (wtFac (V c main_v7) (V c main_arg3 i) : EReal) := by
  refine (dat0 V c).arrAt_eq_of_covers 6 _ (by decide +kernel) fun t hf y => ?_
  blk_simp
  rw [after0_6]
  obtain ⟨a, b, rfl⟩ : ∃ a b : Fin 1024, y = ix2 a b := ⟨y 0, y 1, eq_ix2 y⟩
  have e : (win0_6.blk t).view.emb (ix2 a b : S1024x1024.Idx) = (ix2 ⟨t.val / 108 % 7 * 1024 + a.val, by omega⟩ ⟨t.val / 6 % 18 * 1024 + b.val, by omega⟩ : S7168x18432.Idx) := by
    blk_ext [idx0_6 t]
  refine (wtOut_apply _ _ a b).trans ?_
  rw [blk0_4_apply, blk0_0_apply, blk0_0_apply, blk0_0_apply]
  show _ = wtFac (V c main_v7) (V c main_arg3 ((win0_6.blk t).view.emb (ix2 a b : S1024x1024.Idx)))
  rw [e]
  rfl

/-! ## The sums -/

/-- What one point of the last inner coordinate adds to plane 0. -/
theorem sums1_apply0 (x0 : Vec Ideal S3 .f32) (g w : Vec Ideal S1024x1024 .f32) (s : Vec Ideal S2x8x1024 .f32) (a : Fin 8) (b : Fin 1024) :
    sums1 (F := Ideal) x0 g w s (ix3 0 a b) = (s (ix3 0 a b) : EReal) + ∑ k : Fin 128,
      if (x0 (ix1 0) : EReal) < (w (ix2 ⟨k.val * 8 + a.val, by omega⟩ b) : EReal) then (g (ix2 ⟨k.val * 8 + a.val, by omega⟩ b) : EReal) else 0 := by
  unfold sums1 sums0 VecWindow.put
  rw [dif_neg (fun h => absurd (h 0).1 (show ¬(1 ≤ 0) by decide)), dif_pos (fun x => by fin_cases x <;> simp [ix3])]
  have e : (Rect.unitLocal (s := S2x8x1024) (off := ![0, 0, 0]) (size := S1x8x1024.size) (ix3 0 a b) (fun x => by fin_cases x <;> simp [ix3])) = (ix3 0 a b : S1x8x1024.Idx) := by
    funext x; fin_cases x <;> rfl
  refine (congrArg _ e).trans ((k0_pay9_apply _ _ _ _ a b).trans ?_)
  unfold VecWindow.window
  rw [show (Rect.unit (s := S2x8x1024) ![0, 0, 0] S1x8x1024.size inb_S2x8x1024_S1x8x1024_0_0_0).emb (ix3 0 a b : S1x8x1024.Idx) = (ix3 0 a b : S2x8x1024.Idx) from by
    funext x; apply Fin.ext; fin_cases x <;> simp [ix3]]
  rfl

theorem sums1_apply1 (x0 : Vec Ideal S3 .f32) (g w : Vec Ideal S1024x1024 .f32) (s : Vec Ideal S2x8x1024 .f32) (a : Fin 8) (b : Fin 1024) :
    sums1 (F := Ideal) x0 g w s (ix3 1 a b) = (s (ix3 1 a b) : EReal) + ∑ k : Fin 128,
      if (w (ix2 ⟨k.val * 8 + a.val, by omega⟩ b) : EReal) < 0 - (x0 (ix1 0) : EReal) then (g (ix2 ⟨k.val * 8 + a.val, by omega⟩ b) : EReal) else 0 := by
  unfold sums1 VecWindow.put
  rw [dif_pos (fun x => by fin_cases x <;> simp [ix3])]
  have e : (Rect.unitLocal (s := S2x8x1024) (off := ![1, 0, 0]) (size := S1x8x1024.size) (ix3 1 a b) (fun x => by fin_cases x <;> simp [ix3])) = (ix3 0 a b : S1x8x1024.Idx) := by
    funext x; fin_cases x <;> rfl
  refine (congrArg _ e).trans ((k0_pay10_apply _ _ _ _ a b).trans ?_)
  unfold VecWindow.window
  rw [show (Rect.unit (s := S2x8x1024) ![1, 0, 0] S1x8x1024.size inb_S2x8x1024_S1x8x1024_1_0_0).emb (ix3 0 a b : S1x8x1024.Idx) = (ix3 1 a b : S2x8x1024.Idx) from by
    funext x; apply Fin.ext; fin_cases x <;> simp [ix3]]
  rfl

/-! ### The sums' array -/

/-- A weight above the threshold. -/
def above (δ w : EReal) : Prop := δ < w
/-- A weight below minus the threshold. -/
def below (δ w : EReal) : Prop := w < 0 - δ
instance (δ : EReal) : DecidablePred (above δ) := fun w => inferInstanceAs (Decidable (δ < w))
instance (δ : EReal) : DecidablePred (below δ) := fun w => inferInstanceAs (Decidable (w < 0 - δ))

/-- What the point at position `t` adds to a plane of the sums, by the condition `P` on a weight. -/
def sTerm (P : EReal → Prop) [DecidablePred P] (w : S7168x18432.Idx → EReal) (g : Fin 7168 → Fin 18432 → EReal) (t : ℕ) (a : Fin 8) (b : Fin 1024) : EReal :=
  if t % 6 = 5 then
    ∑ k : Fin 128, if P (w (ix2 ⟨t / 108 % 7 * 1024 + (k.val * 8 + a.val), by omega⟩ ⟨t / 6 % 18 * 1024 + b.val, by omega⟩))
      then g ⟨t / 108 % 7 * 1024 + (k.val * 8 + a.val), by omega⟩ ⟨t / 6 % 18 * 1024 + b.val, by omega⟩ else 0
  else 0

/-- The sum of all points' terms over a plane is the sum over the whole gradient. -/
theorem sTerm_sum (P : EReal → Prop) [DecidablePred P] (w : S7168x18432.Idx → EReal) (g : Fin 7168 → Fin 18432 → EReal) :
    ∑ a : Fin 8, ∑ b : Fin 1024, ∑ t : Fin 756, sTerm P w g t.val a b
      = ∑ d : Fin 7168, ∑ f : Fin 18432, if P (w (ix2 d f)) then g d f else 0 := by
  have h1 : ∀ a b, ∑ t : Fin 756, sTerm P w g t.val a b
      = ∑ i : Fin 7, ∑ j : Fin 18, ∑ k : Fin 128, if P (w (ix2 ⟨i.val * 1024 + (k.val * 8 + a.val), by omega⟩ ⟨j.val * 1024 + b.val, by omega⟩))
          then g ⟨i.val * 1024 + (k.val * 8 + a.val), by omega⟩ ⟨j.val * 1024 + b.val, by omega⟩ else 0 := fun a b => by
    have e1 : ∀ q : Fin 126, ∑ z : Fin 6, sTerm P w g (q.val * 6 + z.val) a b = sTerm P w g (q.val * 6 + 5) a b := fun q => by
      refine (Finset.sum_eq_single (5 : Fin 6) (fun z _ hz => ?_) (fun h => absurd (Finset.mem_univ _) h)).trans rfl
      have hz5 : z.val ≠ 5 := fun h => hz (Fin.ext h)
      exact if_neg (by omega)
    rw [← Fin.sum_mul_add_fin (L := 756) 126 6 (fun t => sTerm P w g t.val a b)]
    simp only [e1]
    refine Fin.sum_divmod_congr fun q hi hj => ?_
    unfold sTerm
    rw [if_pos (by omega)]
    have e2 : (q.val * 6 + 5) / 108 % 7 = q.val / 18 := by omega
    have e3 : (q.val * 6 + 5) / 6 % 18 = q.val % 18 := by omega
    simp only [e2, e3]
  simp only [h1]
  have h2 : ∀ h : Fin 7168 → Fin 18432 → EReal,
      ∑ a : Fin 8, ∑ b : Fin 1024, ∑ i : Fin 7, ∑ j : Fin 18, ∑ k : Fin 128, h ⟨i.val * 1024 + (k.val * 8 + a.val), by omega⟩ ⟨j.val * 1024 + b.val, by omega⟩
        = ∑ d : Fin 7168, ∑ f : Fin 18432, h d f := fun h => by
    rw [← Fin.sum_mul_add_fin (L := 7168) 7 1024 (fun d => ∑ f, h d f)]
    have e4 : ∀ d : Fin 7168, ∑ f, h d f = ∑ j : Fin 18, ∑ b : Fin 1024, h d ⟨j.val * 1024 + b.val, by omega⟩ := fun d =>
      (Fin.sum_mul_add_fin (L := 18432) 18 1024 (fun f => h d f)).symm
    have e5 : ∀ i : Fin 7, ∑ x : Fin 1024, ∑ f, h ⟨i.val * 1024 + x.val, by omega⟩ f
        = ∑ k : Fin 128, ∑ a : Fin 8, ∑ f, h ⟨i.val * 1024 + (k.val * 8 + a.val), by omega⟩ f := fun i =>
      (Fin.sum_mul_add_fin (L := 1024) 128 8 (fun x => ∑ f, h ⟨i.val * 1024 + x.val, by omega⟩ f)).symm
    simp only [e5]
    simp only [e4]
    -- both sides are the sum over (a, b, i, j, k): swap the summations
    calc _ = ∑ a : Fin 8, ∑ i : Fin 7, ∑ b : Fin 1024, ∑ j : Fin 18, ∑ k : Fin 128, h ⟨i.val * 1024 + (k.val * 8 + a.val), by omega⟩ ⟨j.val * 1024 + b.val, by omega⟩ :=
          Finset.sum_congr rfl fun a _ => Finset.sum_comm
      _ = ∑ i : Fin 7, ∑ a : Fin 8, ∑ b : Fin 1024, ∑ j : Fin 18, ∑ k : Fin 128, h ⟨i.val * 1024 + (k.val * 8 + a.val), by omega⟩ ⟨j.val * 1024 + b.val, by omega⟩ := Finset.sum_comm
      _ = _ := Finset.sum_congr rfl fun i _ => by
          rw [Finset.sum_comm (s := (Finset.univ : Finset (Fin 128)))]
          refine Finset.sum_congr rfl fun a _ => ?_
          calc _ = ∑ b : Fin 1024, ∑ k : Fin 128, ∑ j : Fin 18, h ⟨i.val * 1024 + (k.val * 8 + a.val), by omega⟩ ⟨j.val * 1024 + b.val, by omega⟩ :=
                Finset.sum_congr rfl fun b _ => Finset.sum_comm
            _ = ∑ k : Fin 128, ∑ b : Fin 1024, ∑ j : Fin 18, h ⟨i.val * 1024 + (k.val * 8 + a.val), by omega⟩ ⟨j.val * 1024 + b.val, by omega⟩ := Finset.sum_comm
            _ = _ := Finset.sum_congr rfl fun k _ => Finset.sum_comm
  exact h2 fun d f => if P (w (ix2 d f)) then g d f else 0

/-- The gradient blocks' sums at a point of the last inner coordinate, by the arrays. -/
theorem s_step0 (c : Dev nD) (s : Fin 12288 → EReal) (hs : ∀ r l, V c main_v8 (ix2 r l) = s r) (t : Fin cfg0.N) (ht : t.val % 6 = 5) (old : Vec Ideal S2x8x1024 .f32) (a : Fin 8) (b : Fin 1024) :
    sums1 (F := Ideal) (blk0 V c 0 t) (gAcc V c t.val t.isLt) (blk0 V c 4 t) old (ix3 0 a b)
      = (old (ix3 0 a b) : EReal) + sTerm (above (V c main_v7 (ix1 0))) (V c main_arg3) (gradS (V c main_v0) (V c main_v1) s) t.val a b := by
  rw [sums1_apply0]
  unfold sTerm
  rw [if_pos ht]
  simp only [gAcc_apply V c s hs t ht, blk0_4_apply, blk0_0_apply]
  rfl

theorem s_step1 (c : Dev nD) (s : Fin 12288 → EReal) (hs : ∀ r l, V c main_v8 (ix2 r l) = s r) (t : Fin cfg0.N) (ht : t.val % 6 = 5) (old : Vec Ideal S2x8x1024 .f32) (a : Fin 8) (b : Fin 1024) :
    sums1 (F := Ideal) (blk0 V c 0 t) (gAcc V c t.val t.isLt) (blk0 V c 4 t) old (ix3 1 a b)
      = (old (ix3 1 a b) : EReal) + sTerm (below (V c main_v7 (ix1 0))) (V c main_arg3) (gradS (V c main_v0) (V c main_v1) s) t.val a b := by
  rw [sums1_apply1]
  unfold sTerm
  rw [if_pos ht]
  simp only [gAcc_apply V c s hs t ht, blk0_4_apply, blk0_0_apply]
  rfl

/-- A plane of the sums after the last point, from what each point adds. -/
theorem sAcc_plane (c : Dev nD) (p : Fin 2) (T : ℕ → Fin 8 → Fin 1024 → EReal) (hT0 : ∀ t a b, ¬t % 6 = 5 → T t a b = 0)
    (hstep : ∀ (t : Fin cfg0.N), t.val % 6 = 5 → ∀ (old : Vec Ideal S2x8x1024 .f32) (a : Fin 8) (b : Fin 1024),
      sums1 (F := Ideal) (blk0 V c 0 t) (gAcc V c t.val t.isLt) (blk0 V c 4 t) old (ix3 p a b) = (old (ix3 p a b) : EReal) + T t.val a b)
    (t : Fin cfg0.N) (ht : t.val + 1 = cfg0.N) (a : Fin 8) (b : Fin 1024) :
    (sAcc V c t.val t.isLt (ix3 p a b) : EReal) = ∑ u : Fin 756, T u.val a b := by
  refine (Pipeline.eq_sum_fin_of_reset_step_last (M := EReal) (N := cfg0.N) (fun n h => sAcc V c n h (ix3 p a b)) 756 0 (fun u : Fin cfg0.N => T u.val a b)
    (fun u h => ?_) (fun u h => ?_) (le_of_eq N_0) t ht).trans ?_
  · have hu : u.val = 0 := by have := u.isLt; have : cfg0.N = 756 := N_0; omega
    rw [sAcc_first V c u hu, k0_pay3_apply, hT0 _ _ _ (by omega), zero_add]
  · by_cases h5 : u.val % 6 = 5
    · rw [sAcc_last V c u h5, hstep u h5]
    · rw [sAcc_keep V c u (by omega) h5, hT0 _ _ _ h5, add_zero]
  · rw [zero_add]; rfl

/-- The last point of the grid. -/
def tEnd0 : Fin cfg0.N := ⟨755, lt_of_lt_of_eq (by decide : 755 < 756) N_0.symm⟩
theorem tEnd0_succ : tEnd0.val + 1 = cfg0.N := N_0.symm
theorem wholeAt0_7 : (cfg0.win 7).WholeAt tEnd0 := by decide +kernel

theorem sTerm_zero (P : EReal → Prop) [DecidablePred P] (w : S7168x18432.Idx → EReal) (g : Fin 7168 → Fin 18432 → EReal) (t : ℕ) (a : Fin 8) (b : Fin 1024)
    (h : ¬t % 6 = 5) : sTerm P w g t a b = 0 := if_neg h

/-- The sums' array after the call: a plane's entry is the sum of what every point adds to it. -/
theorem sums_arr (c : Dev nD) (p : Fin 2) (T : ℕ → Fin 8 → Fin 1024 → EReal) (hT0 : ∀ t a b, ¬t % 6 = 5 → T t a b = 0)
    (hstep : ∀ (t : Fin cfg0.N), t.val % 6 = 5 → ∀ (old : Vec Ideal S2x8x1024 .f32) (a : Fin 8) (b : Fin 1024),
      sums1 (F := Ideal) (blk0 V c 0 t) (gAcc V c t.val t.isLt) (blk0 V c 4 t) old (ix3 p a b) = (old (ix3 p a b) : EReal) + T t.val a b)
    (a : Fin 8) (b : Fin 1024) :
    ((dat0 V c).arrAt 7 cfg0.N (ix3 p a b : S2x8x1024.Idx) : EReal) = ∑ u : Fin 756, T u.val a b := by
  refine ((dat0 V c).arrAt_emb_eq_after_last 7 tEnd0 wholeAt0_7 (ix3 p a b : S2x8x1024.Idx)).trans ?_
  blk_simp
  rw [after0_7]
  exact sAcc_plane V c p T hT0 hstep tEnd0 tEnd0_succ a b

theorem sums_arr0 (c : Dev nD) (s : Fin 12288 → EReal) (hs : ∀ r l, V c main_v8 (ix2 r l) = s r) (a : Fin 8) (b : Fin 1024) :
    ((dat0 V c).arrAt 7 cfg0.N (ix3 0 a b : S2x8x1024.Idx) : EReal)
      = ∑ u : Fin 756, sTerm (above (V c main_v7 (ix1 0))) (V c main_arg3) (gradS (V c main_v0) (V c main_v1) s) u.val a b :=
  sums_arr V c 0 (fun u a b => sTerm (above (V c main_v7 (ix1 0))) (V c main_arg3) (gradS (V c main_v0) (V c main_v1) s) u a b) (fun t a b h => sTerm_zero _ _ _ t a b h) (fun t h => s_step0 V c s hs t h) a b

theorem sums_arr1 (c : Dev nD) (s : Fin 12288 → EReal) (hs : ∀ r l, V c main_v8 (ix2 r l) = s r) (a : Fin 8) (b : Fin 1024) :
    ((dat0 V c).arrAt 7 cfg0.N (ix3 1 a b : S2x8x1024.Idx) : EReal)
      = ∑ u : Fin 756, sTerm (below (V c main_v7 (ix1 0))) (V c main_arg3) (gradS (V c main_v0) (V c main_v1) s) u.val a b :=
  sums_arr V c 1 (fun u a b => sTerm (below (V c main_v7 (ix1 0))) (V c main_arg3) (gradS (V c main_v0) (V c main_v1) s) u a b) (fun t a b h => sTerm_zero _ _ _ t a b h) (fun t h => s_step1 V c s hs t h) a b

end Cert.KernelIdeal.Own
-- ==== Proof.K.Arr1.lean ====
module

public import proofs.«01_k».proof.Proof.K.Pay
public import Idealize.ShloMosaic.Lib.Pipeline.ValueKit
public import Idealize.ShloMosaic.Lib.Pointwise

@[expose] public section

/-! # What the second call leaves in its array, over the extended reals -/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-! ## The windows' block indices -/

theorem idx1_0 : ∀ t : Fin cfg1.N, win1_0.index t = ![t.val / 63 % 12, t.val % 9] := (by decide +kernel : ∀ t : Fin grid1.N, _)
theorem idx1_1 : ∀ t : Fin cfg1.N, win1_1.index t = ![t.val / 9 % 7, t.val % 9] := (by decide +kernel : ∀ t : Fin grid1.N, _)
theorem idx1_2 : ∀ t : Fin cfg1.N, win1_2.index t = ![t.val / 63 % 12, 0] := (by decide +kernel : ∀ t : Fin grid1.N, _)
theorem idx1_3 : ∀ t : Fin cfg1.N, win1_3.index t = ![t.val / 63 % 12, t.val / 9 % 7] := (by decide +kernel : ∀ t : Fin grid1.N, _)

theorem blk1_0_apply (c : Dev nD) (t : Fin cfg1.N) (a : Fin 1024) (k : Fin 2048) :
    blk1 V c 0 t (ix2 a k) = V c main_v1 (ix2 ⟨t.val / 63 % 12 * 1024 + a.val, by omega⟩ ⟨t.val % 9 * 2048 + k.val, by omega⟩) := by
  blk_ext [blk1, idx1_0 t]
theorem blk1_1_apply (c : Dev nD) (t : Fin cfg1.N) (a : Fin 1024) (k : Fin 2048) :
    blk1 V c 1 t (ix2 a k) = V c main_v9_1 (ix2 ⟨t.val / 9 % 7 * 1024 + a.val, by omega⟩ ⟨t.val % 9 * 2048 + k.val, by omega⟩) := by
  blk_ext [blk1, idx1_1 t]
theorem blk1_2_apply (c : Dev nD) (t : Fin cfg1.N) (a : Fin 1024) (k : Fin 128) :
    blk1 V c 2 t (ix2 a k) = V c main_v3 (ix2 ⟨t.val / 63 % 12 * 1024 + a.val, by omega⟩ k) := by
  blk_ext [blk1, idx1_2 t]

/-! ## The accumulated product -/

/-- The input gradient before its scaling: the sum over the columns of the output gradient times the ternary weight. -/
def backS (dy : S12288x18432.Idx → EReal) (wt : S7168x18432.Idx → EReal) (r : Fin 12288) (d : Fin 7168) : EReal :=
  ∑ f : Fin 18432, dy (ix2 r f) * wt (ix2 d f)

theorem sq_lt0 (i : S1024x1024.Idx) : (i 0).val < 1024 := (i 0).isLt
theorem sq_lt1 (i : S1024x1024.Idx) : (i 1).val < 1024 := (i 1).isLt

/-- What the point at position `t` adds to the accumulator. -/
def xTerm (dy : S12288x18432.Idx → EReal) (wt : S7168x18432.Idx → EReal) (t : ℕ) (i : S1024x1024.Idx) : EReal :=
  ∑ k : Fin 2048, dy (ix2 ⟨t / 63 % 12 * 1024 + (i 0).val, by have := sq_lt0 i; omega⟩ ⟨t % 9 * 2048 + k.val, by omega⟩)
    * wt (ix2 ⟨t / 9 % 7 * 1024 + (i 1).val, by have := sq_lt1 i; omega⟩ ⟨t % 9 * 2048 + k.val, by omega⟩)

theorem x_step (c : Dev nD) (t : Fin cfg1.N) (acc : Vec Ideal S1024x1024 .f32) (i : S1024x1024.Idx) :
    k1_pay2 (F := Ideal) acc (blk1 V c 0 t) (blk1 V c 1 t) i = (acc i : EReal) + xTerm (V c main_v1) (V c main_v9_1) t.val i := by
  obtain ⟨a, b, rfl⟩ : ∃ a b : Fin 1024, i = ix2 a b := ⟨i 0, i 1, eq_ix2 i⟩
  rw [k1_pay2_apply]
  simp only [blk1_0_apply, blk1_1_apply]
  rfl

theorem xAcc_apply (c : Dev nD) (t : Fin cfg1.N) (ht : t.val % 9 = 8) (a b : Fin 1024) :
    (xAcc V c t.val t.isLt (ix2 a b) : EReal) = backS (V c main_v1) (V c main_v9_1) ⟨t.val / 63 % 12 * 1024 + a.val, by omega⟩ ⟨t.val / 9 % 7 * 1024 + b.val, by omega⟩ := by
  refine (Pipeline.eq_sum_fin_of_reset_step_apply_of_flush (M := EReal) (fun n h => xAcc V c n h) 9 (fun _ => 0)
    (fun u : Fin cfg1.N => xTerm (V c main_v1) (V c main_v9_1) u.val) (fun t h i => ?_) (fun t h i => ?_) t ht (ix2 a b)).trans ?_
  · obtain ⟨a, b, rfl⟩ : ∃ a b : Fin 1024, i = ix2 a b := ⟨i 0, i 1, eq_ix2 i⟩
    rw [xAcc_start V c t h, x_step, k1_pay1_apply]
  · rw [xAcc_next V c t h, x_step]
  · rw [zero_add]
    unfold xTerm backS
    refine Fin.sum_mul_add_congr fun u k hl => ?_
    have e1 : (9 * (t.val / 9) + u.val) % 9 = u.val := by omega
    have e2 : (9 * (t.val / 9) + u.val) / 63 % 12 = t.val / 63 % 12 := by omega
    have e3 : (9 * (t.val / 9) + u.val) / 9 % 7 = t.val / 9 % 7 := by omega
    simp only [e1, e2, e3]
    rfl

/-- The input gradient's array, the scale the same in every column of its block. -/
theorem dx_arr (c : Dev nD) (s : Fin 12288 → EReal) (hs : ∀ r l, V c main_v3 (ix2 r l) = s r) :
    (dat1 V c).arrAt 3 cfg1.N = fun i : S12288x7168.Idx => (s (i 0) * backS (V c main_v1) (V c main_v9_1) (i 0) (i 1) : EReal) := by
  refine (dat1 V c).arrAt_eq_of_covers 3 _ (by decide +kernel) fun t hf y => ?_
  have h8 : t.val % 9 = 8 := (flush1_3 t).mp hf
  blk_simp
  rw [after1_3]
  obtain ⟨a, b, rfl⟩ : ∃ a b : Fin 1024, y = ix2 a b := ⟨y 0, y 1, eq_ix2 y⟩
  have e : (win1_3.blk t).view.emb (ix2 a b : S1024x1024.Idx) = (ix2 ⟨t.val / 63 % 12 * 1024 + a.val, by omega⟩ ⟨t.val / 9 % 7 * 1024 + b.val, by omega⟩ : S12288x7168.Idx) := by
    blk_ext [idx1_3 t]
  refine (k1_pay3_apply _ _ (fun r => s ⟨t.val / 63 % 12 * 1024 + r.val, by omega⟩) (fun r l => by rw [blk1_2_apply]; exact hs _ _) a b).trans ?_
  rw [xAcc_apply V c t h8]
  show _ = s ((win1_3.blk t).view.emb (ix2 a b : S1024x1024.Idx) 0) * backS (V c main_v1) (V c main_v9_1) ((win1_3.blk t).view.emb (ix2 a b : S1024x1024.Idx) 0) ((win1_3.blk t).view.emb (ix2 a b : S1024x1024.Idx) 1)
  rw [e]
  rfl

end Cert.KernelIdeal.Own
-- ==== Proof.K.KFin.lean ====
module

public import proofs.«01_k».proof.Proof.K.Arr0
public import proofs.«01_k».proof.Proof.K.Arr1
public import Idealize.ShloMosaic.Lib.Pipeline.ValueKit
public import Idealize.ShloMosaic.Lib.Pointwise

@[expose] public section

/-! # The kernel's four results, over the extended reals, from the arguments -/

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arguments as launched, as functions on their indices. -/
def a0 (c : Dev nD) : S3x4096x7168.Idx → EReal := m (c, (Proc.tc : Proc τ).devRef main_arg0)
def a1 (c : Dev nD) : S3x4096x18432.Idx → EReal := m (c, (Proc.tc : Proc τ).devRef main_arg1)
def a2 (c : Dev nD) : S3x4096.Idx → EReal := m (c, (Proc.tc : Proc τ).devRef main_arg2)
def a3 (c : Dev nD) : S7168x18432.Idx → EReal := m (c, (Proc.tc : Proc τ).devRef main_arg3)
def a4 (c : Dev nD) : S_.Idx → EReal := m (c, (Proc.tc : Proc τ).devRef main_arg4)
def a5 (c : Dev nD) : S_.Idx → EReal := m (c, (Proc.tc : Proc τ).devRef main_arg5)
def a6 (c : Dev nD) : S_.Idx → EReal := m (c, (Proc.tc : Proc τ).devRef main_arg6)

/-- The only index of a scalar. -/
def sc : S_.Idx := fun k => k.elim0

/-- The batch and the position within it of a row of the flattened arrays. -/
def bOf (r : Fin 12288) : Fin 3 := ⟨r.val / 4096, by omega⟩
def tOf (r : Fin 12288) : Fin 4096 := ⟨r.val % 4096, by omega⟩

theorem main_v0_apply (c : Dev nD) (r : Fin 12288) (d : Fin 7168) :
    V1 m c main_v0 (ix2 r d) = a0 m c (ix3 (bOf r) (tOf r) d) := by
  unfold V1 hostOps0
  after_results
  pointwise
  rfl
theorem main_v1_apply (c : Dev nD) (r : Fin 12288) (f : Fin 18432) :
    V1 m c main_v1 (ix2 r f) = a1 m c (ix3 (bOf r) (tOf r) f) := by
  unfold V1 hostOps0
  after_results
  pointwise
  rfl
theorem main_v3_apply (c : Dev nD) (r : Fin 12288) (l : Fin 128) :
    V1 m c main_v3 (ix2 r l) = a2 m c (ix2 (bOf r) (tOf r)) := by
  unfold V1 hostOps0
  after_results
  pointwise
  rfl
theorem main_v8_apply (c : Dev nD) (r : Fin 12288) (l : Fin 128) :
    V1 m c main_v8 (ix2 r l) = a2 m c (ix2 (bOf r) (tOf r)) := by
  unfold V1 hostOps0
  after_results
  pointwise
  rfl
theorem main_v7_apply0 (c : Dev nD) : V1 m c main_v7 (ix1 0) = a4 m c sc := by
  unfold V1 hostOps0
  after_results
  pointwise
  after_results_simp
  exact congrArg (a4 m c) (funext fun k => k.elim0)
theorem main_v7_apply1 (c : Dev nD) : V1 m c main_v7 (ix1 1) = a5 m c sc := by
  unfold V1 hostOps0
  after_results
  pointwise
  after_results_simp
  exact congrArg (a5 m c) (funext fun k => k.elim0)
theorem main_v7_apply2 (c : Dev nD) : V1 m c main_v7 (ix1 2) = a6 m c sc := by
  unfold V1 hostOps0
  after_results
  pointwise
  after_results_simp
  exact congrArg (a6 m c) (funext fun k => k.elim0)
theorem main_arg3_apply (c : Dev nD) : V1 m c main_arg3 = a3 m c := V1_of m c main_arg3 (by decide)

theorem main_v11_apply (c : Dev nD) (b : Fin 3) (t : Fin 4096) (d : Fin 7168)  :
    V4 m (outs m) c main_v11 (ix3 b t d) = V3 m (outs m) c main_v10 (ix2 (⟨b.val * 4096 + t.val, by omega⟩ : Fin 12288) d) := by
  unfold V4 hostOps2
  after_results
  pointwise
/-- The plane of a table of partial sums, added up. -/
def planeSum (p : S2x8x1024.Idx → EReal) (k : Fin 2) : EReal := ∑ a : Fin 8, ∑ b : Fin 1024, p (ix3 k a b)
/-- The kernel's table of partial sums, as a function of its index. -/
def parts (c : Dev nD) : S2x8x1024.Idx → EReal := (dat0 (Ve0 m) c).arrAt 7 cfg0.N
theorem parts_eq (c : Dev nD) : V3 m (outs m) c main_v9_2 = parts m c :=
  (V3_of m (outs m) c main_v9_2 (by decide)).trans (V2_at_2 m c)
theorem main_v14_apply (c : Dev nD) (j) : V4 m (outs m) c main_v14 j = planeSum (parts m c) 0 := by
  unfold V4 hostOps2
  after_results
  rw [parts_eq]
  pointwise
  rfl
theorem main_v18_apply (c : Dev nD) (j) : V4 m (outs m) c main_v18 j = (-planeSum (parts m c) 1 : EReal) := by
  unfold V4 hostOps2
  after_results
  rw [parts_eq]
  pointwise
  rfl
theorem main_v9_0_eq (c : Dev nD) : V4 m (outs m) c main_v9_0 = (dat0 (Ve0 m) c).arrAt 5 cfg0.N :=
  (V4_of m (outs m) c main_v9_0 (by decide)).trans ((V3_of m (outs m) c main_v9_0 (by decide)).trans (V2_at_0 m c))

/-! ## The arrays the second call reads -/
theorem ve1_v1 (c : Dev nD) : Ve1 m c main_v1 = V1 m c main_v1 := V2_of m (outsA m) c main_v1 (by decide)
theorem ve1_v3 (c : Dev nD) : Ve1 m c main_v3 = V1 m c main_v3 := V2_of m (outsA m) c main_v3 (by decide)
theorem ve1_wt (c : Dev nD) : Ve1 m c main_v9_1 = (dat0 (Ve0 m) c).arrAt 6 cfg0.N :=
  (congrFun (V2_outs m c) _).symm.trans (V2_at_1 m c)

/-! ## Splitting the row sum -/

/-- The weight gradient's entry: the sum over the batch and the positions. -/
def gradR (x : S3x4096x7168.Idx → EReal) (dy : S3x4096x18432.Idx → EReal) (s : S3x4096.Idx → EReal) (d : Fin 7168) (f : Fin 18432) : EReal :=
  ∑ b : Fin 3, ∑ t : Fin 4096, x (ix3 b t d) * (dy (ix3 b t f) * s (ix2 b t))

theorem bOf_mk (b : Fin 3) (t : Fin 4096) (h : b.val * 4096 + t.val < 12288) : bOf ⟨b.val * 4096 + t.val, h⟩ = b := by
  apply Fin.ext; show (b.val * 4096 + t.val) / 4096 = b.val; omega
theorem tOf_mk (b : Fin 3) (t : Fin 4096) (h : b.val * 4096 + t.val < 12288) : tOf ⟨b.val * 4096 + t.val, h⟩ = t := by
  apply Fin.ext; show (b.val * 4096 + t.val) % 4096 = t.val; omega

/-- The row scales, by row. -/
def rowS (c : Dev nD) (r : Fin 12288) : EReal := a2 m c (ix2 (bOf r) (tOf r))

theorem gradS_eq (c : Dev nD) (d : Fin 7168) (f : Fin 18432) :
    gradS (V1 m c main_v0) (V1 m c main_v1) (rowS m c) d f = gradR (a0 m c) (a1 m c) (a2 m c) d f := by
  have h : gradS (V1 m c main_v0) (V1 m c main_v1) (rowS m c) d f = ∑ r : Fin 12288, a0 m c (ix3 (bOf r) (tOf r) d) * (a1 m c (ix3 (bOf r) (tOf r) f) * a2 m c (ix2 (bOf r) (tOf r))) := by
    unfold gradS
    refine Finset.sum_congr rfl fun r _ => ?_
    rw [main_v0_apply, main_v1_apply]; rfl
  refine h.trans ?_
  refine (Fin.sum_mul_add_fin (L := 12288) 3 4096 (fun r => a0 m c (ix3 (bOf r) (tOf r) d) * (a1 m c (ix3 (bOf r) (tOf r) f) * a2 m c (ix2 (bOf r) (tOf r)))) rfl).symm.trans ?_
  simp only [bOf_mk, tOf_mk]
  rfl

theorem backS_eq (c : Dev nD) (wt : S7168x18432.Idx → EReal) (b : Fin 3) (t : Fin 4096) (h : b.val * 4096 + t.val < 12288) (d : Fin 7168) :
    backS (V1 m c main_v1) wt ⟨b.val * 4096 + t.val, h⟩ d = ∑ f, a1 m c (ix3 b t f) * wt (ix2 d f) := by
  unfold backS
  refine Finset.sum_congr rfl fun f _ => ?_
  rw [main_v1_apply, bOf_mk, tOf_mk]

/-! ## The four results -/

theorem parts_sum0 (c : Dev nD) : planeSum (parts m c) 0 = ∑ a : Fin 8, ∑ b : Fin 1024, ∑ t : Fin 756,
    sTerm (above (V1 m c main_v7 (ix1 0))) (V1 m c main_arg3) (gradS (V1 m c main_v0) (V1 m c main_v1) (rowS m c)) t.val a b := by
  unfold planeSum
  exact Finset.sum_congr rfl fun a _ => Finset.sum_congr rfl fun b _ => sums_arr0 (Ve0 m) c (rowS m c) (main_v8_apply m c) a b
theorem parts_sum1 (c : Dev nD) : planeSum (parts m c) 1 = ∑ a : Fin 8, ∑ b : Fin 1024, ∑ t : Fin 756,
    sTerm (below (V1 m c main_v7 (ix1 0))) (V1 m c main_arg3) (gradS (V1 m c main_v0) (V1 m c main_v1) (rowS m c)) t.val a b := by
  unfold planeSum
  exact Finset.sum_congr rfl fun a _ => Finset.sum_congr rfl fun b _ => sums_arr1 (Ve0 m) c (rowS m c) (main_v8_apply m c) a b

theorem res_dw (c : Dev nD) (d : Fin 7168) (f : Fin 18432) : V4 m (outs m) c main_v9_0 (ix2 d f) =
    (if a4 m c sc < a3 m c (ix2 d f) then a5 m c sc else if a3 m c (ix2 d f) < 0 - a4 m c sc then a6 m c sc else 1) * gradR (a0 m c) (a1 m c) (a2 m c) d f := by
  rw [main_v9_0_eq, dw_arr (Ve0 m) c (rowS m c) (main_v8_apply m c)]
  show dwFac (V1 m c main_v7) (V1 m c main_arg3 (ix2 d f)) * gradS (V1 m c main_v0) (V1 m c main_v1) (rowS m c) d f = _
  rw [gradS_eq, main_arg3_apply]
  unfold dwFac
  rw [main_v7_apply0, main_v7_apply1, main_v7_apply2]

theorem res_dx (c : Dev nD) (b : Fin 3) (t : Fin 4096) (d : Fin 7168) : V4 m (outs m) c main_v11 (ix3 b t d) =
    a2 m c (ix2 b t) * ∑ f, a1 m c (ix3 b t f) *
      (if a4 m c sc < a3 m c (ix2 d f) then a5 m c sc else if a3 m c (ix2 d f) < 0 - a4 m c sc then 0 - a6 m c sc else 0) := by
  rw [main_v11_apply, V3_at, dx_arr (Ve1 m) c (rowS m c) (fun r l => (congrFun (ve1_v3 m c) _).trans (main_v3_apply m c r l)),
    ve1_v1, ve1_wt, wt_arr]
  show rowS m c ⟨b.val * 4096 + t.val, by omega⟩ * backS (V1 m c main_v1) (fun i => wtFac (V1 m c main_v7) (V1 m c main_arg3 i)) ⟨b.val * 4096 + t.val, by omega⟩ d = _
  rw [backS_eq, main_arg3_apply]
  unfold rowS
  rw [bOf_mk, tOf_mk]
  unfold wtFac
  rw [main_v7_apply0, main_v7_apply1, main_v7_apply2]

theorem res_dwp (c : Dev nD) (j) : V4 m (outs m) c main_v14 j =
    ∑ d : Fin 7168, ∑ f : Fin 18432, if a4 m c sc < a3 m c (ix2 d f) then gradR (a0 m c) (a1 m c) (a2 m c) d f else 0 := by
  rw [main_v14_apply]
  refine (parts_sum0 m c).trans ?_
  refine (sTerm_sum _ _ _).trans ?_
  refine Finset.sum_congr rfl fun d _ => Finset.sum_congr rfl fun f _ => ?_
  show (if above (V1 m c main_v7 (ix1 0)) (V1 m c main_arg3 (ix2 d f)) then gradS (V1 m c main_v0) (V1 m c main_v1) (rowS m c) d f else 0) = _
  rw [gradS_eq, main_arg3_apply, main_v7_apply0]
  rfl

theorem res_dwn (c : Dev nD) (j) : V4 m (outs m) c main_v18 j =
    (-∑ d : Fin 7168, ∑ f : Fin 18432, if a3 m c (ix2 d f) < 0 - a4 m c sc then gradR (a0 m c) (a1 m c) (a2 m c) d f else 0 : EReal) := by
  rw [main_v18_apply]
  refine congrArg (fun x : EReal => -x) ?_
  refine (parts_sum1 m c).trans ?_
  refine (sTerm_sum _ _ _).trans ?_
  refine Finset.sum_congr rfl fun d _ => Finset.sum_congr rfl fun f _ => ?_
  show (if below (V1 m c main_v7 (ix1 0)) (V1 m c main_arg3 (ix2 d f)) then gradS (V1 m c main_v0) (V1 m c main_v1) (rowS m c) d f else 0) = _
  rw [gradS_eq, main_arg3_apply, main_v7_apply0]
  rfl

end Cert.KernelIdeal.Own
-- ==== Proof.K.Ref.lean ====
module

public import proofs.«01_k».proof.Proof.Gen.ReferenceIdeal.Frame
public import Idealize.ShloMosaic.Lib.Pipeline.ValueKit
public import Idealize.ShloMosaic.Lib.Pointwise

@[expose] public section

/-! # The reference's four results, over the extended reals, from the arguments -/

set_option maxRecDepth 16384

noncomputable section

namespace Cert.ReferenceIdeal.Own

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The arguments as launched, as functions on their indices. -/
def a0 (c : Dev nD) : S3x4096x7168.Idx → EReal := m (c, (Proc.tc : Proc τ).devRef main_arg0)
def a1 (c : Dev nD) : S3x4096x18432.Idx → EReal := m (c, (Proc.tc : Proc τ).devRef main_arg1)
def a2 (c : Dev nD) : S3x4096.Idx → EReal := m (c, (Proc.tc : Proc τ).devRef main_arg2)
def a3 (c : Dev nD) : S7168x18432.Idx → EReal := m (c, (Proc.tc : Proc τ).devRef main_arg3)
def a4 (c : Dev nD) : S_.Idx → EReal := m (c, (Proc.tc : Proc τ).devRef main_arg4)
def a5 (c : Dev nD) : S_.Idx → EReal := m (c, (Proc.tc : Proc τ).devRef main_arg5)
def a6 (c : Dev nD) : S_.Idx → EReal := m (c, (Proc.tc : Proc τ).devRef main_arg6)

/-! ## The region: the gradient widened -/

theorem blk0_0 (c : Dev nD) (t : Fin cfg0.N) : iblk m c 0 t = V m c main_arg1 := by
  rw [fin_N0 t]
  funext y
  unfold iblk
  blk_simp
  refine congrArg (V m c main_arg1) ?_
  have i0 : ∀ a, win0_0.index t0_0 a = 0 := by decide +kernel
  blk_ext [i0]

theorem v5_arr (c : Dev nD) : (dats m 0 c).arrAt 1 cfg0.N = fun i : S3x4096x18432.Idx => a1 m c i := by
  refine ((dats m 0 c).arrAt_eq_of_after_last 1 t0_0 (by decide +kernel) _ fun j => ?_)
  rw [after0_1, blk0_0, V_main_arg1]
  unfold out0_1
  rw [View.canon_unit_zero (by funext a; fin_cases a <;> rfl), View.ld_unit_zero (by funext a; fin_cases a <;> rfl)]
  rfl

/-- The buffers the lines after the region start from. -/
def W (c : Dev nD) : Valuation τ sig (Elt Ideal) :=
  Pipeline.withArrays spec0 c (V0 m c) fun w => (dats m 0 c).arrAt w cfg0.N
theorem W_of (c : Dev nD) (b : Ref sig .tc) (h : ∀ w, Pipeline.arrRef spec0 w ≠ b) : W m c (Proc.devRef .tc b) = V m c b :=
  Pipeline.withArrays_of_ne _ c _ _ b h
theorem W_v5 (c : Dev nD) : W m c (Proc.devRef .tc main_v5) = a1 m c :=
  (Pipeline.withArrays_arr spec0 (by decide) c _ _ 1).trans (v5_arr m c)
theorem W_arg0 (c : Dev nD) : W m c (Proc.devRef .tc main_arg0) = a0 m c := (W_of m c main_arg0 (by decide)).trans (V_main_arg0 m c)
theorem W_arg2 (c : Dev nD) : W m c (Proc.devRef .tc main_arg2) = a2 m c := (W_of m c main_arg2 (by decide)).trans (V_main_arg2 m c)
theorem W_arg3 (c : Dev nD) : W m c (Proc.devRef .tc main_arg3) = a3 m c := (W_of m c main_arg3 (by decide)).trans (V_main_arg3 m c)
theorem W_arg4 (c : Dev nD) : W m c (Proc.devRef .tc main_arg4) = a4 m c := (W_of m c main_arg4 (by decide)).trans (V_main_arg4 m c)
theorem W_arg5 (c : Dev nD) : W m c (Proc.devRef .tc main_arg5) = a5 m c := (W_of m c main_arg5 (by decide)).trans (V_main_arg5 m c)
theorem W_arg6 (c : Dev nD) : W m c (Proc.devRef .tc main_arg6) = a6 m c := (W_of m c main_arg6 (by decide)).trans (V_main_arg6 m c)
theorem W_v1 (c : Dev nD) : W m c (Proc.devRef .tc main_v1) =
    cmpf (F := Ideal) (s := S7168x18432) (φ := .f32) .ogt (a3 m c) (broadcastInDim S7168x18432 ![] bcast_S_S7168x18432 (a4 m c)) := by
  refine (W_of m c main_v1 (by decide)).trans ?_
  unfold V V0 hostOps0
  simp only [List.flatten_cons, List.flatten_nil, List.append_nil, List.cons_append, List.nil_append]
  after_results
  rfl
theorem W_v4 (c : Dev nD) : W m c (Proc.devRef .tc main_v4) =
    cmpf (F := Ideal) (s := S7168x18432) (φ := .f32) .olt (a3 m c) (broadcastInDim S7168x18432 ![] bcast_S_S7168x18432 (Host.negf (F := Ideal) (s := S_) (φ := .f32) (a4 m c))) := by
  refine (W_of m c main_v4 (by decide)).trans ?_
  unfold V V0 hostOps0
  simp only [List.flatten_cons, List.flatten_nil, List.append_nil, List.cons_append, List.nil_append]
  after_results
  rfl
/-- What a buffer holds after the lines that follow the region. -/
def Z (c : Dev nD) (b : Ref sig .tc) : Buf (Elt Ideal) ((c.tc : Thread nD τ).loc b) :=
  StableHlo.after (List.flatten [hostOps1, hostOps1_1, hostOps1_2, hostOps1_3, hostOps1_4, hostOps1_5, hostOps1_6, hostOps1_7, hostOps1_8, hostOps1_9, hostOps1_10]) (W m c) (Proc.devRef .tc b)

/-- The weight gradient's entry: the sum over the batch and the positions. -/
def gradR (x : S3x4096x7168.Idx → EReal) (dy : S3x4096x18432.Idx → EReal) (s : S3x4096.Idx → EReal) (d : Fin 7168) (f : Fin 18432) : EReal :=
  ∑ b : Fin 3, ∑ t : Fin 4096, x (ix3 b t d) * (dy (ix3 b t f) * s (ix2 b t))

/-! ## The four results -/

theorem sel_v1 (c : Dev nD) (d : Fin 7168) (f : Fin 18432) (x y : EReal) :
    Scalar.select (W m c (Proc.devRef .tc main_v1) (ix2 d f)) x y = if a4 m c ix0 < a3 m c (ix2 d f) then x else y := by
  rw [W_v1]
  pointwise
theorem sel_v4 (c : Dev nD) (d : Fin 7168) (f : Fin 18432) (x y : EReal) :
    Scalar.select (W m c (Proc.devRef .tc main_v4) (ix2 d f)) x y = if a3 m c (ix2 d f) < -a4 m c ix0 then x else y := by
  rw [W_v4]
  pointwise

theorem res_dw (c : Dev nD) (d : Fin 7168) (f : Fin 18432) : Z m c main_v16 (ix2 d f) =
    if a4 m c ix0 < a3 m c (ix2 d f) then a5 m c ix0 * gradR (a0 m c) (a1 m c) (a2 m c) d f
    else if a3 m c (ix2 d f) < -a4 m c ix0 then a6 m c ix0 * gradR (a0 m c) (a1 m c) (a2 m c) d f
    else gradR (a0 m c) (a1 m c) (a2 m c) d f := by
  unfold Z
  simp only [List.flatten_cons, List.flatten_nil, List.append_nil, List.cons_append, List.nil_append]
  after_results_simp
  simp only [StableHlo.TRef.toBuf, StableHlo.TRef.ofBuf, cast_cast, cast_eq, id_eq]
  pointwise
  rw [sel_v1, sel_v4, W_arg0, W_arg2, W_arg5, W_arg6, W_v5]
  rfl
theorem res_dwp (c : Dev nD) (j) : Z m c main_v18 j =
    ∑ d : Fin 7168, ∑ f : Fin 18432, if a4 m c ix0 < a3 m c (ix2 d f) then gradR (a0 m c) (a1 m c) (a2 m c) d f else 0 := by
  unfold Z
  simp only [List.flatten_cons, List.flatten_nil, List.append_nil, List.cons_append, List.nil_append]
  after_results_simp
  simp only [StableHlo.TRef.toBuf, StableHlo.TRef.ofBuf, cast_cast, cast_eq, id_eq]
  pointwise
  refine Finset.sum_congr (M := EReal) rfl fun d _ => Finset.sum_congr (M := EReal) rfl fun f _ => ?_
  rw [sel_v1, W_arg0, W_arg2, W_v5]
  rfl
theorem res_dwn (c : Dev nD) (j) : Z m c main_v21 j =
    (-∑ d : Fin 7168, ∑ f : Fin 18432, if a3 m c (ix2 d f) < -a4 m c ix0 then gradR (a0 m c) (a1 m c) (a2 m c) d f else 0 : EReal) := by
  unfold Z
  simp only [List.flatten_cons, List.flatten_nil, List.append_nil, List.cons_append, List.nil_append]
  after_results_simp
  simp only [StableHlo.TRef.toBuf, StableHlo.TRef.ofBuf, cast_cast, cast_eq, id_eq]
  pointwise
  refine congrArg (fun x : EReal => -x) ?_
  refine Finset.sum_congr rfl fun d _ => Finset.sum_congr rfl fun f _ => ?_
  rw [sel_v4, W_arg0, W_arg2, W_v5]
  rfl
theorem res_dx (c : Dev nD) (b : Fin 3) (t : Fin 4096) (d : Fin 7168) : Z m c main_v30 (ix3 b t d) =
    a2 m c (ix2 b t) * ∑ f : Fin 18432, a1 m c (ix3 b t f) *
      (if a4 m c ix0 < a3 m c (ix2 d f) then a5 m c ix0 else if a3 m c (ix2 d f) < -a4 m c ix0 then -a6 m c ix0 else 0) := by
  unfold Z
  simp only [List.flatten_cons, List.flatten_nil, List.append_nil, List.cons_append, List.nil_append]
  after_results_simp
  simp only [StableHlo.TRef.toBuf, StableHlo.TRef.ofBuf, cast_cast, cast_eq, id_eq]
  pointwise
  rw [W_arg2, W_v5, W_arg5, W_arg6]
  refine congrArg (fun x : EReal => a2 m c (ix2 b t) * x) ?_
  refine Finset.sum_congr rfl fun f _ => ?_
  rw [sel_v1, sel_v4]

/-! ## The run -/

/-- What the reference's run ends in: its results as the lines leave them, the arguments as launched. -/
def FinR (c : Dev nD) (s : MemSt nD τ sig (Elt Ideal)) : Prop :=
  s.mem ((c.tc : Thread nD τ).loc main_v30) = Z m c main_v30
  ∧ s.mem ((c.tc : Thread nD τ).loc main_v16) = Z m c main_v16
  ∧ s.mem ((c.tc : Thread nD τ).loc main_v18) = Z m c main_v18
  ∧ s.mem ((c.tc : Thread nD τ).loc main_v21) = Z m c main_v21

theorem run_results (ρ : Dev nD → PrngReg) :
    θ_run defs (onTc (τ := τ) (main (F := Ideal))) ⟨m, fun _ => 0, ρ⟩ (fun r => ∀ c : Dev nD, FinR m c r.2) :=
  (θ_run defs _ _).mono (fun _ h c =>
    ⟨(h c).2 main_v30 (Pipeline.mem_restRefs_of main_v30 (by decide) (by decide)),
     (h c).2 main_v16 (Pipeline.mem_restRefs_of main_v16 (by decide) (by decide)),
     (h c).2 main_v18 (Pipeline.mem_restRefs_of main_v18 (by decide) (by decide)),
     (h c).2 main_v21 (Pipeline.mem_restRefs_of main_v21 (by decide) (by decide))⟩) (run_main m ρ)

end Cert.ReferenceIdeal.Own
-- ==== Proof.K.Value.lean ====
module

public import proofs.«01_k».proof.Proof.K.KFin
public import proofs.«01_k».proof.Proof.K.Ref
public import proofs.«01_k».proof.Defs

@[expose] public section

/-! # The kernel's results are the reference's, over the extended reals

Both sides are read element by element from the same arguments (`KernelIdeal.Own.res_…`, `ReferenceIdeal.Own.res_…`); what
remains is that one factor chosen by the two comparisons is the same whether it is chosen before or after the multiplication. -/

set_option maxRecDepth 16384

noncomputable section

namespace Cert.Own

open Idealize.ShloMosaic Idealize.SL.Sem

/-- The two memories agree on the arguments of device `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  Cert.ReferenceIdeal.Own.a0 m' c = Cert.KernelIdeal.Own.a0 m c ∧ Cert.ReferenceIdeal.Own.a1 m' c = Cert.KernelIdeal.Own.a1 m c
  ∧ Cert.ReferenceIdeal.Own.a2 m' c = Cert.KernelIdeal.Own.a2 m c ∧ Cert.ReferenceIdeal.Own.a3 m' c = Cert.KernelIdeal.Own.a3 m c
  ∧ Cert.ReferenceIdeal.Own.a4 m' c = Cert.KernelIdeal.Own.a4 m c ∧ Cert.ReferenceIdeal.Own.a5 m' c = Cert.KernelIdeal.Own.a5 m c
  ∧ Cert.ReferenceIdeal.Own.a6 m' c = Cert.KernelIdeal.Own.a6 m c

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem sc_eq : Cert.KernelIdeal.Own.sc = ix0 := funext fun k => k.elim0

/-- The scaled gradient of the inputs. -/
theorem dx_eq (c : Dev Cert.KernelIdeal.nD) (h : Agree m m' c) :
    Cert.ReferenceIdeal.Own.Z m' c Cert.ReferenceIdeal.main_v30
      = Cert.KernelIdeal.Gen.V4 m (Cert.KernelIdeal.Own.outs m) c (Proc.devRef .tc Cert.KernelIdeal.main_v11) := by
  obtain ⟨-, h1, h2, h3, h4, h5, h6⟩ := h
  funext i
  obtain ⟨b, t, d, rfl⟩ : ∃ (b : Fin 3) (t : Fin 4096) (d : Fin 7168), i = ix3 b t d := ⟨i 0, i 1, i 2, eq_ix3 i⟩
  refine (Cert.ReferenceIdeal.Own.res_dx m' c b t d).trans (Eq.trans ?_ (Cert.KernelIdeal.Own.res_dx m c b t d).symm)
  rw [h1, h2, h3, h4, h5, h6, sc_eq]
  simp only [zero_sub]

/-- The gradient of the weights. -/
theorem dw_eq (c : Dev Cert.KernelIdeal.nD) (h : Agree m m' c) :
    Cert.ReferenceIdeal.Own.Z m' c Cert.ReferenceIdeal.main_v16
      = Cert.KernelIdeal.Gen.V4 m (Cert.KernelIdeal.Own.outs m) c (Proc.devRef .tc Cert.KernelIdeal.main_v9_0) := by
  obtain ⟨h0, h1, h2, h3, h4, h5, h6⟩ := h
  funext i
  obtain ⟨d, f, rfl⟩ : ∃ (d : Fin 7168) (f : Fin 18432), i = ix2 d f := ⟨i 0, i 1, eq_ix2 i⟩
  refine (Cert.ReferenceIdeal.Own.res_dw m' c d f).trans (Eq.trans ?_ (Cert.KernelIdeal.Own.res_dw m c d f).symm)
  rw [h0, h1, h2, h3, h4, h5, h6, sc_eq]
  simp only [zero_sub, ite_mul, one_mul]
  rfl

/-- The summed gradient above the threshold. -/
theorem dwp_eq (c : Dev Cert.KernelIdeal.nD) (h : Agree m m' c) :
    Cert.ReferenceIdeal.Own.Z m' c Cert.ReferenceIdeal.main_v18
      = Cert.KernelIdeal.Gen.V4 m (Cert.KernelIdeal.Own.outs m) c (Proc.devRef .tc Cert.KernelIdeal.main_v14) := by
  obtain ⟨h0, h1, h2, h3, h4, -, -⟩ := h
  funext j
  refine (Cert.ReferenceIdeal.Own.res_dwp m' c j).trans (Eq.trans ?_ (Cert.KernelIdeal.Own.res_dwp m c j).symm)
  rw [h0, h1, h2, h3, h4, sc_eq]
  rfl

/-- The summed gradient below the threshold, negated. -/
theorem dwn_eq (c : Dev Cert.KernelIdeal.nD) (h : Agree m m' c) :
    Cert.ReferenceIdeal.Own.Z m' c Cert.ReferenceIdeal.main_v21
      = Cert.KernelIdeal.Gen.V4 m (Cert.KernelIdeal.Own.outs m) c (Proc.devRef .tc Cert.KernelIdeal.main_v18) := by
  obtain ⟨h0, h1, h2, h3, h4, -, -⟩ := h
  funext j
  refine (Cert.ReferenceIdeal.Own.res_dwn m' c j).trans (Eq.trans ?_ (Cert.KernelIdeal.Own.res_dwn m c j).symm)
  rw [h0, h1, h2, h3, h4, sc_eq]
  simp only [zero_sub]
  rfl

/-- THE VALUE CLAIM: kernel and reference end with equal results, all four, and unchanged arguments. -/
theorem algebraic :
    @Cert.algebraic_KernelIdeal_ReferenceIdeal Cert.KernelIdeal.Gen.facts Cert.ReferenceIdeal.Gen.facts := by
  intro m g m' g' _ hag
  have hA : ∀ c, Agree m m' c := fun c => hag c
  refine ⟨fun c => Cert.KernelIdeal.Gen.V4 m (Cert.KernelIdeal.Own.outs m) c (Proc.devRef .tc Cert.KernelIdeal.main_v11),
    fun c => Cert.KernelIdeal.Gen.V4 m (Cert.KernelIdeal.Own.outs m) c (Proc.devRef .tc Cert.KernelIdeal.main_v9_0),
    fun c => Cert.KernelIdeal.Gen.V4 m (Cert.KernelIdeal.Own.outs m) c (Proc.devRef .tc Cert.KernelIdeal.main_v14),
    fun c => Cert.KernelIdeal.Gen.V4 m (Cert.KernelIdeal.Own.outs m) c (Proc.devRef .tc Cert.KernelIdeal.main_v18), ?_, ?_⟩
  · refine (θ_run _ _ _).mono (fun _ h c => ?_) (Cert.KernelIdeal.Own.run_main m g)
    obtain ⟨h0, h1, h2, h3, h4, h5, h6, r0, r1, r2, r3⟩ := h.1 c
    exact ⟨r0, r1, r2, r3, h0, h1, h2, h3, h4, h5, h6⟩
  · refine (θ_run _ _ _).mono (fun _ h c => ?_)
      (θ_run_and (Cert.ReferenceIdeal.Own.run_results m' g') (Cert.ReferenceIdeal.Gen.unchanged m' g'))
    obtain ⟨r0, r1, r2, r3⟩ := h.1 c
    obtain ⟨h0, h1, h2, h3, h4, h5, h6⟩ := h.2 c
    exact ⟨r0.trans (dx_eq m m' c (hA c)), r1.trans (dw_eq m m' c (hA c)), r2.trans (dwp_eq m m' c (hA c)),
      r3.trans (dwn_eq m m' c (hA c)), h0, h1, h2, h3, h4, h5, h6⟩

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Transfer
public import proofs.«01_k».proof.Proof.K.Regions
public import proofs.«01_k».proof.Proof.K.Value
public import Idealize.ShloMosaic.Adequacy
public import Idealize.ShloMosaic.Init

@[expose] public section

noncomputable section

namespace Cert.Proof

open Idealize.ShloMosaic Idealize.SL.Sem

/-- The kernel's frame at any floats, in the ideal printing. -/
theorem frameKI {F : FTy → Type} [FloatOps F] : @Cert.Own.FrameKI F _ Cert.KernelIdeal.Gen.facts := fun m g =>
  (θ_run _ _ _).mono (fun _ h => ⟨fun c => by
    obtain ⟨h0, h1, h2, h3, h4, h5, h6, -⟩ := h.1 c
    exact ⟨h0, h1, h2, h3, h4, h5, h6⟩, h.2⟩) (Cert.KernelIdeal.Own.run_main m g)

/-- And in the kernel's own printing. -/
theorem frameK {F : FTy → Type} [FloatOps F] : @Cert.Own.FrameK F _ Cert.Kernel.Gen.facts := by
  rw [Cert.Own.frame_eq]; exact frameKI

theorem claim : Cert.Claim := ⟨Cert.Kernel.Gen.facts, Cert.KernelIdeal.Gen.facts, Cert.ReferenceIdeal.Gen.facts,
  fun m g _ => frameK m g, fun m g _ => frameKI m g, fun m g _ => Cert.ReferenceIdeal.Gen.frame m g, trivial, Cert.Own.algebraic⟩

end Cert.Proof

end
